-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_unbiased_unmasked_finite [hPre_unbiased_unmasked_finite : Cert.Pre_unbiased_unmasked_finite.Facts] (m : (ℓ : Loc Cert.KernelIdeal.nD Cert.KernelIdeal.τ Cert.KernelIdeal.sig) → Buf (Elt Ideal) ℓ) : Prop :=
  ∀ c : Dev Cert.KernelIdeal.nD,
    (Cert.Pre_unbiased_unmasked_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_unbiased_unmasked_finite [hPre_unbiased_unmasked_finite : Cert.Pre_unbiased_unmasked_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_unbiased_unmasked_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_unbiased_unmasked_finite [hKernelIdeal : Cert.KernelIdeal.Facts] [hPre_unbiased_unmasked_finite : Cert.Pre_unbiased_unmasked_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_unbiased_unmasked_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_unbiased_unmasked_finite [hReferenceIdeal : Cert.ReferenceIdeal.Facts] [hPre_unbiased_unmasked_finite : Cert.Pre_unbiased_unmasked_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_unbiased_unmasked_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal_pre_unbiased_unmasked_finite [hKernelIdeal : Cert.KernelIdeal.Facts] [hReferenceIdeal : Cert.ReferenceIdeal.Facts] [hPre_unbiased_unmasked_finite : Cert.Pre_unbiased_unmasked_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_unbiased_unmasked_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_v53) = v1 c
          ∧ r.2.mem ((c.tc : Thread Cert.ReferenceIdeal.nD Cert.ReferenceIdeal.τ).loc Cert.ReferenceIdeal.main_v56) = v2 c
          ∧ r.2.mem ((c.tc : Thread Cert.ReferenceIdeal.nD Cert.ReferenceIdeal.τ).loc Cert.ReferenceIdeal.main_v60) = v3 c
          ∧ r.2.mem ((c.tc : Thread Cert.ReferenceIdeal.nD Cert.ReferenceIdeal.τ).loc Cert.ReferenceIdeal.main_v62) = v4 c
          ∧ r.2.mem ((c.tc : Thread Cert.ReferenceIdeal.nD Cert.ReferenceIdeal.τ).loc Cert.ReferenceIdeal.main_v63) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_unbiased_unmasked_finite : Cert.Pre_unbiased_unmasked_finite.Facts),
    quiescent_Kernel (hKernel := hKernel)
    ∧ quiescent_KernelIdeal (hKernelIdeal := hKernelIdeal)
    ∧ quiescent_KernelIdeal_pre_unbiased_unmasked_finite (hKernelIdeal := hKernelIdeal) (hPre_unbiased_unmasked_finite := hPre_unbiased_unmasked_finite)
    ∧ quiescent_ReferenceIdeal (hReferenceIdeal := hReferenceIdeal)
    ∧ quiescent_ReferenceIdeal_pre_unbiased_unmasked_finite (hReferenceIdeal := hReferenceIdeal) (hPre_unbiased_unmasked_finite := hPre_unbiased_unmasked_finite)
    ∧ preserves_Kernel_KernelIdeal
    ∧ algebraic_KernelIdeal_ReferenceIdeal_pre_unbiased_unmasked_finite (hKernelIdeal := hKernelIdeal) (hReferenceIdeal := hReferenceIdeal) (hPre_unbiased_unmasked_finite := hPre_unbiased_unmasked_finite)
-- ==== Pre_unbiased_unmasked_finite.lean ====
abbrev S4096x3 : Shape := ⟨2, ![4096, 3]⟩
abbrev S4096x64 : Shape := ⟨2, ![4096, 64]⟩
abbrev S6x256 : Shape := ⟨2, ![6, 256]⟩
abbrev S256 : Shape := ⟨1, ![256]⟩
abbrev S256x256 : Shape := ⟨2, ![256, 256]⟩
abbrev S256x1 : Shape := ⟨2, ![256, 1]⟩
abbrev S256x3 : Shape := ⟨2, ![256, 3]⟩
abbrev S_ : Shape := ⟨0, ![]⟩

class Facts : Prop where
  bcast_S_S4096x3 : S_.BroadcastsInDim S4096x3 (![] : Fin 0 → Fin S4096x3.rank)
  reducesTo_S4096x3_S_d0_1 : S4096x3.ReducesTo [0, 1] S_
  h_S_ : 0 < S_.numel
  bcast_S_S4096x64 : S_.BroadcastsInDim S4096x64 (![] : Fin 0 → Fin S4096x64.rank)
  reducesTo_S4096x64_S_d0_1 : S4096x64.ReducesTo [0, 1] S_
  bcast_S_S6x256 : S_.BroadcastsInDim S6x256 (![] : Fin 0 → Fin S6x256.rank)
  reducesTo_S6x256_S_d0_1 : S6x256.ReducesTo [0, 1] S_
  bcast_S_S256x256 : S_.BroadcastsInDim S256x256 (![] : Fin 0 → Fin S256x256.rank)
  reducesTo_S256x256_S_d0_1 : S256x256.ReducesTo [0, 1] S_
  bcast_S_S256x1 : S_.BroadcastsInDim S256x1 (![] : Fin 0 → Fin S256x1.rank)
  reducesTo_S256x1_S_d0_1 : S256x1.ReducesTo [0, 1] S_
  bcast_S_S256 : S_.BroadcastsInDim S256 (![] : Fin 0 → Fin S256.rank)
  reducesTo_S256_S_d0 : S256.ReducesTo [0] S_

variable [Facts]

def fn_part2 {F : FTy → Type} [FloatOps F] (main_arg3 : IVec S4096x64 32) (main_arg6 : FVec F S256 .f32) (main_arg8 : FVec F S256 .f32) (main_v33 : IVec S_ 1) : IVec S_ 1 :=
  let main_c_12 : IVec S_ 32 := constantI S_ 32 4294967295#32
  let main_v34 : IVec S4096x64 32 := broadcastInDim S4096x64 ![] bcast_S_S4096x64 main_c_12
  let main_v35 : IVec S4096x64 1 := cmpi .ne main_arg3 main_v34
  let main_c_13 : IVec S_ 1 := constantI S_ 1 1#1
  let main_v36 : IVec S_ 1 := (fun x v => Host.reduce IntOp.andi x v reducesTo_S4096x64_S_d0_1 h_S_) main_v35 main_c_13
  let main_v37 : IVec S_ 1 := andi main_v33 main_v36
  let main_cst_14 : FVec F S_ .f32 := constant S_ .f32 0x00000000#32
  let main_v38 : FVec F S256 .f32 := broadcastInDim S256 ![] bcast_S_S256 main_cst_14
  let main_v39 : IVec S256 1 := cmpf .oeq main_arg6 main_v38
  let main_c_15 : IVec S_ 1 := constantI S_ 1 1#1
  let main_v40 : IVec S_ 1 := (fun x v => Host.reduce IntOp.andi x v reducesTo_S256_S_d0 h_S_) main_v39 main_c_15
  let main_v41 : IVec S_ 1 := andi main_v37 main_v40
  let main_cst_16 : FVec F S_ .f32 := constant S_ .f32 0x00000000#32
  let main_v42 : FVec F S256 .f32 := broadcastInDim S256 ![] bcast_S_S256 main_cst_16
  let main_v43 : IVec S256 1 := cmpf .oeq main_arg8 main_v42
  let main_c_17 : IVec S_ 1 := constantI S_ 1 1#1
  let main_v44 : IVec S_ 1 := (fun x v => Host.reduce IntOp.andi x v reducesTo_S256_S_d0 h_S_) main_v43 main_c_17
  let main_v45 : IVec S_ 1 := andi main_v41 main_v44
  main_v45

def fn_part1 {F : FTy → Type} [FloatOps F] (main_arg3 : IVec S4096x64 32) (main_arg5 : FVec F S6x256 .f32) (main_arg6 : FVec F S256 .f32) (main_arg7 : FVec F S256x256 .f32) (main_arg8 : FVec F S256 .f32) (main_arg9 : FVec F S256x1 .f32) (main_v13 : IVec S_ 1) (main_v16 : IVec S4096x64 1) : IVec S_ 1 :=
  let main_c_5 : IVec S_ 1 := constantI S_ 1 1#1
  let main_v17 : IVec S_ 1 := (fun x v => Host.reduce IntOp.andi x v reducesTo_S4096x64_S_d0_1 h_S_) main_v16 main_c_5
  let main_v18 : IVec S_ 1 := andi main_v13 main_v17
  let main_v19 : FVec F S6x256 .f32 := Host.absf main_arg5
  let main_cst_6 : FVec F S_ .f32 := constant S_ .f32 0x7F800000#32
  let main_v20 : FVec F S6x256 .f32 := broadcastInDim S6x256 ![] bcast_S_S6x256 main_cst_6
  let main_v21 : IVec S6x256 1 := cmpf .olt main_v19 main_v20
  let main_c_7 : IVec S_ 1 := constantI S_ 1 1#1
  let main_v22 : IVec S_ 1 := (fun x v => Host.reduce IntOp.andi x v reducesTo_S6x256_S_d0_1 h_S_) main_v21 main_c_7
  let main_v23 : IVec S_ 1 := andi main_v18 main_v22
  let main_v24 : FVec F S256x256 .f32 := Host.absf main_arg7
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256x1 .f32 := Host.absf main_arg9
  let main_cst_10 : FVec F S_ .f32 := constant S_ .f32 0x7F800000#32
  let main_v30 : FVec F S256x1 .f32 := broadcastInDim S256x1 ![] bcast_S_S256x1 main_cst_10
  let main_v31 : IVec S256x1 1 := cmpf .olt main_v29 main_v30
  let main_c_11 : IVec S_ 1 := constantI S_ 1 1#1
  let main_v32 : IVec S_ 1 := (fun x v => Host.reduce IntOp.andi x v reducesTo_S256x1_S_d0_1 h_S_) main_v31 main_c_11
  let main_v33 : IVec S_ 1 := andi main_v28 main_v32
  fn_part2 (F := F) main_arg3 main_arg6 main_arg8 main_v33

def fn {F : FTy → Type} [FloatOps F] (main_arg0 : FVec F S4096x3 .f32) (main_arg1 : FVec F S4096x3 .f32) (main_arg2 : FVec F S4096x64 .f32) (main_arg3 : IVec S4096x64 32) (main_arg4 : FVec F S4096x64 .f32) (main_arg5 : FVec F S6x256 .f32) (main_arg6 : FVec F S256 .f32) (main_arg7 : FVec F S256x256 .f32) (main_arg8 : FVec F S256 .f32) (main_arg9 : FVec F S256x1 .f32) (main_arg10 : FVec F S256x3 .f32) : IVec S_ 1 :=
  let main_v0 : FVec F S4096x3 .f32 := Host.absf main_arg0
  let main_cst : FVec F S_ .f32 := constant S_ .f32 0x7F800000#32
  let main_v1 : FVec F S4096x3 .f32 := broadcastInDim S4096x3 ![] bcast_S_S4096x3 main_cst
  let main_v2 : IVec S4096x3 1 := cmpf .olt main_v0 main_v1
  let main_c : IVec S_ 1 := constantI S_ 1 1#1
  let main_v3 : IVec S_ 1 := (fun x v => Host.reduce IntOp.andi x v reducesTo_S4096x3_S_d0_1 h_S_) main_v2 main_c
  let main_v4 : FVec F S4096x3 .f32 := Host.absf main_arg1
  let main_cst_0 : FVec F S_ .f32 := constant S_ .f32 0x7F800000#32
  let main_v5 : FVec F S4096x3 .f32 := broadcastInDim S4096x3 ![] bcast_S_S4096x3 main_cst_0
  let main_v6 : IVec S4096x3 1 := cmpf .olt main_v4 main_v5
  let main_c_1 : IVec S_ 1 := constantI S_ 1 1#1
  let main_v7 : IVec S_ 1 := (fun x v => Host.reduce IntOp.andi x v reducesTo_S4096x3_S_d0_1 h_S_) main_v6 main_c_1
  let main_v8 : IVec S_ 1 := andi main_v3 main_v7
  let main_v9 : FVec F S4096x64 .f32 := Host.absf main_arg2
  let main_cst_2 : FVec F S_ .f32 := constant S_ .f32 0x7F800000#32
  let main_v10 : FVec F S4096x64 .f32 := broadcastInDim S4096x64 ![] bcast_S_S4096x64 main_cst_2
  let main_v11 : IVec S4096x64 1 := cmpf .olt main_v9 main_v10
  let main_c_3 : IVec S_ 1 := constantI S_ 1 1#1
  let main_v12 : IVec S_ 1 := (fun x v => Host.reduce IntOp.andi x v reducesTo_S4096x64_S_d0_1 h_S_) main_v11 main_c_3
  let main_v13 : IVec S_ 1 := andi main_v8 main_v12
  let main_v14 : FVec F S4096x64 .f32 := Host.absf main_arg4
  let main_cst_4 : FVec F S_ .f32 := constant S_ .f32 0x7F800000#32
  let main_v15 : FVec F S4096x64 .f32 := broadcastInDim S4096x64 ![] bcast_S_S4096x64 main_cst_4
  let main_v16 : IVec S4096x64 1 := cmpf .olt main_v14 main_v15
  fn_part1 (F := F) main_arg3 main_arg5 main_arg6 main_arg7 main_arg8 main_arg9 main_v13 main_v16
-- ==== Kernel.lean ====
abbrev S4096x3 : Shape := ⟨2, ![4096, 3]⟩
abbrev S4096x64 : Shape := ⟨2, ![4096, 64]⟩
abbrev S6x256 : Shape := ⟨2, ![6, 256]⟩
abbrev S256 : Shape := ⟨1, ![256]⟩
abbrev S256x256 : Shape := ⟨2, ![256, 256]⟩
abbrev S256x1 : Shape := ⟨2, ![256, 1]⟩
abbrev S256x3 : Shape := ⟨2, ![256, 3]⟩
abbrev S_ : Shape := ⟨0, ![]⟩
abbrev S8x4096x64 : Shape := ⟨3, ![8, 4096, 64]⟩
abbrev S3x4096 : Shape := ⟨2, ![3, 4096]⟩
abbrev S3x4096x1 : Shape := ⟨3, ![3, 4096, 1]⟩
abbrev S1 : Shape := ⟨1, ![1]⟩
abbrev S3x4096x64 : Shape := ⟨3, ![3, 4096, 64]⟩
abbrev S8x262144 : Shape := ⟨2, ![8, 262144]⟩
abbrev S1x262144 : Shape := ⟨2, ![1, 262144]⟩
abbrev S2048x128 : Shape := ⟨2, ![2048, 128]⟩
abbrev S256x8 : Shape := ⟨2, ![256, 8]⟩
abbrev S256x6 : Shape := ⟨2, ![256, 6]⟩
abbrev S8x256 : Shape := ⟨2, ![8, 256]⟩
abbrev S3x256 : Shape := ⟨2, ![3, 256]⟩
abbrev S2x2 : Shape := ⟨2, ![2, 2]⟩
abbrev S64x64 : Shape := ⟨2, ![64, 64]⟩
abbrev S2x1x2x1 : Shape := ⟨4, ![2, 1, 2, 1]⟩
abbrev S1x64x1x64 : Shape := ⟨4, ![1, 64, 1, 64]⟩
abbrev S2x64x2x64 : Shape := ⟨4, ![2, 64, 2, 64]⟩
abbrev S128x128 : Shape := ⟨2, ![128, 128]⟩
abbrev S8192 : Shape := ⟨1, ![8192]⟩
abbrev S8192x1 : Shape := ⟨2, ![8192, 1]⟩
abbrev S128 : Shape := ⟨1, ![128]⟩
abbrev S1x128 : Shape := ⟨2, ![1, 128]⟩
abbrev S8192x128 : Shape := ⟨2, ![8192, 128]⟩
abbrev S8x4096 : Shape := ⟨2, ![8, 4096]⟩
abbrev S4096x8 : Shape := ⟨2, ![4096, 8]⟩
abbrev S1x4096 : Shape := ⟨2, ![1, 4096]⟩
abbrev S4096 : Shape := ⟨1, ![4096]⟩
abbrev S4096x1 : Shape := ⟨2, ![4096, 1]⟩
abbrev S8x8192 : Shape := ⟨2, ![8, 8192]⟩
abbrev S1x8192 : Shape := ⟨2, ![1, 8192]⟩
abbrev S64x128 : Shape := ⟨2, ![64, 128]⟩
abbrev S128x64 : Shape := ⟨2, ![128, 64]⟩
abbrev S8x128 : Shape := ⟨2, ![8, 128]⟩
abbrev S128x8 : Shape := ⟨2, ![128, 8]⟩
abbrev S3x8192 : Shape := ⟨2, ![3, 8192]⟩
abbrev S5x8192 : Shape := ⟨2, ![5, 8192]⟩
abbrev S256x8192 : Shape := ⟨2, ![256, 8192]⟩
abbrev S128x1 : Shape := ⟨2, ![128, 1]⟩
abbrev S128x6 : Shape := ⟨2, ![128, 6]⟩

abbrev nBuf : Space → Nat
  | .hbm => 117
  | .vmem => 19
  | .smem => 0
  | _ => 0

abbrev bufTy : (tb : Table) → Fin (tcTables nBuf tb) → BufTy
  | .hbm, ⟨0, _⟩ => ⟨S4096x3, .f32⟩
  | .hbm, ⟨1, _⟩ => ⟨S4096x3, .f32⟩
  | .hbm, ⟨2, _⟩ => ⟨S4096x64, .f32⟩
  | .hbm, ⟨3, _⟩ => ⟨S4096x64, .i32⟩
  | .hbm, ⟨4, _⟩ => ⟨S4096x64, .f32⟩
  | .hbm, ⟨5, _⟩ => ⟨S6x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x1, .f32⟩
  | .hbm, ⟨10, _⟩ => ⟨S256x3, .f32⟩
  | .hbm, ⟨11, _⟩ => ⟨S_, .f32⟩
  | .hbm, ⟨12, _⟩ => ⟨S8x4096x64, .f32⟩
  | .hbm, ⟨13, _⟩ => ⟨S3x4096, .f32⟩
  | .hbm, ⟨14, _⟩ => ⟨S3x4096x1, .f32⟩
  | .hbm, ⟨15, _⟩ => ⟨S_, .i32⟩
  | .hbm, ⟨16, _⟩ => ⟨S1, .i32⟩
  | .hbm, ⟨17, _⟩ => ⟨S3x4096x64, .f32⟩
  | .hbm, ⟨18, _⟩ => ⟨S8x4096x64, .f32⟩
  | .hbm, ⟨19, _⟩ => ⟨S3x4096, .f32⟩
  | .hbm, ⟨20, _⟩ => ⟨S3x4096x1, .f32⟩
  | .hbm, ⟨21, _⟩ => ⟨S_, .i32⟩
  | .hbm, ⟨22, _⟩ => ⟨S1, .i32⟩
  | .hbm, ⟨23, _⟩ => ⟨S3x4096x64, .f32⟩
  | .hbm, ⟨24, _⟩ => ⟨S8x4096x64, .f32⟩
  | .hbm, ⟨25, _⟩ => ⟨S8x262144, .f32⟩
  | .hbm, ⟨26, _⟩ => ⟨S1x262144, .f32⟩
  | .hbm, ⟨27, _⟩ => ⟨S2048x128, .f32⟩
  | .hbm, ⟨28, _⟩ => ⟨S_, .bf16⟩
  | .hbm, ⟨29, _⟩ => ⟨S256x8, .bf16⟩
  | .hbm, ⟨30, _⟩ => ⟨S256x6, .f32⟩
  | .hbm, ⟨31, _⟩ => ⟨S256x6, .bf16⟩
  | .hbm, ⟨32, _⟩ => ⟨S_, .i32⟩
  | .hbm, ⟨33, _⟩ => ⟨S1, .i32⟩
  | .hbm, ⟨34, _⟩ => ⟨S256x8, .bf16⟩
  | .hbm, ⟨35, _⟩ => ⟨S256x256, .f32⟩
  | .hbm, ⟨36, _⟩ => ⟨S256x256, .bf16⟩
  | .hbm, ⟨37, _⟩ => ⟨S_, .bf16⟩
  | .hbm, ⟨38, _⟩ => ⟨S8x256, .bf16⟩
  | .hbm, ⟨39, _⟩ => ⟨S256, .f32⟩
  | .hbm, ⟨40, _⟩ => ⟨S256, .bf16⟩
  | .hbm, ⟨41, _⟩ => ⟨S_, .i32⟩
  | .hbm, ⟨42, _⟩ => ⟨S1, .i32⟩
  | .hbm, ⟨43, _⟩ => ⟨S8x256, .bf16⟩
  | .hbm, ⟨44, _⟩ => ⟨S3x256, .f32⟩
  | .hbm, ⟨45, _⟩ => ⟨S3x256, .bf16⟩
  | .hbm, ⟨46, _⟩ => ⟨S_, .i32⟩
  | .hbm, ⟨47, _⟩ => ⟨S1, .i32⟩
  | .hbm, ⟨48, _⟩ => ⟨S8x256, .bf16⟩
  | .hbm, ⟨49, _⟩ => ⟨S2x2, .i32⟩
  | .hbm, ⟨50, _⟩ => ⟨S2x2, .i32⟩
  | .hbm, ⟨51, _⟩ => ⟨S_, .i32⟩
  | .hbm, ⟨52, _⟩ => ⟨S2x2, .i32⟩
  | .hbm, ⟨53, _⟩ => ⟨S2x2, .i32⟩
  | .hbm, ⟨54, _⟩ => ⟨S2x2, .i1⟩
  | .hbm, ⟨55, _⟩ => ⟨S2x2, .f32⟩
  | .hbm, ⟨56, _⟩ => ⟨S_, .f32⟩
  | .hbm, ⟨57, _⟩ => ⟨S64x64, .f32⟩
  | .hbm, ⟨58, _⟩ => ⟨S64x64, .i32⟩
  | .hbm, ⟨59, _⟩ => ⟨S_, .i32⟩
  | .hbm, ⟨60, _⟩ => ⟨S64x64, .i32⟩
  | .hbm, ⟨61, _⟩ => ⟨S64x64, .i32⟩
  | .hbm, ⟨62, _⟩ => ⟨S64x64, .i32⟩
  | .hbm, ⟨63, _⟩ => ⟨S64x64, .i1⟩
  | .hbm, ⟨64, _⟩ => ⟨S_, .f32⟩
  | .hbm, ⟨65, _⟩ => ⟨S64x64, .f32⟩
  | .hbm, ⟨66, _⟩ => ⟨S64x64, .f32⟩
  | .hbm, ⟨67, _⟩ => ⟨S2x1x2x1, .f32⟩
  | .hbm, ⟨68, _⟩ => ⟨S1x64x1x64, .f32⟩
  | .hbm, ⟨69, _⟩ => ⟨S2x64x2x64, .f32⟩
  | .hbm, ⟨70, _⟩ => ⟨S2x64x2x64, .f32⟩
  | .hbm, ⟨71, _⟩ => ⟨S2x64x2x64, .f32⟩
  | .hbm, ⟨72, _⟩ => ⟨S128x128, .f32⟩
  | .hbm, ⟨73, _⟩ => ⟨S128x128, .bf16⟩
  | .hbm, ⟨74, _⟩ => ⟨S8192, .i32⟩
  | .hbm, ⟨75, _⟩ => ⟨S8192x1, .i32⟩
  | .hbm, ⟨76, _⟩ => ⟨S_, .i32⟩
  | .hbm, ⟨77, _⟩ => ⟨S_, .i32⟩
  | .hbm, ⟨78, _⟩ => ⟨S8192x1, .i32⟩
  | .hbm, ⟨79, _⟩ => ⟨S8192x1, .i32⟩
  | .hbm, ⟨80, _⟩ => ⟨S8192x1, .i32⟩
  | .hbm, ⟨81, _⟩ => ⟨S_, .i32⟩
  | .hbm, ⟨82, _⟩ => ⟨S8192x1, .i32⟩
  | .hbm, ⟨83, _⟩ => ⟨S8192x1, .i1⟩
  | .hbm, ⟨84, _⟩ => ⟨S8192x1, .i32⟩
  | .hbm, ⟨85, _⟩ => ⟨S8192x1, .i32⟩
  | .hbm, ⟨86, _⟩ => ⟨S_, .i32⟩
  | .hbm, ⟨87, _⟩ => ⟨S8192x1, .i32⟩
  | .hbm, ⟨88, _⟩ => ⟨S8192x1, .i1⟩
  | .hbm, ⟨89, _⟩ => ⟨S8192x1, .i1⟩
  | .hbm, ⟨90, _⟩ => ⟨S_, .i32⟩
  | .hbm, ⟨91, _⟩ => ⟨S8192x1, .i32⟩
  | .hbm, ⟨92, _⟩ => ⟨S8192x1, .i32⟩
  | .hbm, ⟨93, _⟩ => ⟨S8192x1, .i32⟩
  | .hbm, ⟨94, _⟩ => ⟨S128, .i32⟩
  | .hbm, ⟨95, _⟩ => ⟨S1x128, .i32⟩
  | .hbm, ⟨96, _⟩ => ⟨S8192x128, .i32⟩
  | .hbm, ⟨97, _⟩ => ⟨S8192x128, .i32⟩
  | .hbm, ⟨98, _⟩ => ⟨S8192x128, .i1⟩
  | .hbm, ⟨99, _⟩ => ⟨S8192x128, .bf16⟩
  | .hbm, ⟨100, _⟩ => ⟨S1x262144, .f32⟩
  | .hbm, ⟨101, _⟩ => ⟨S8x4096, .f32⟩
  | .hbm, ⟨102, _⟩ => ⟨S4096x8, .f32⟩
  | .hbm, ⟨103, _⟩ => ⟨S4096x64, .f32⟩
  | .hbm, ⟨104, _⟩ => ⟨S1x4096, .f32⟩
  | .hbm, ⟨105, _⟩ => ⟨S4096, .f32⟩
  | .hbm, ⟨106, _⟩ => ⟨S1x4096, .f32⟩
  | .hbm, ⟨107, _⟩ => ⟨S4096, .f32⟩
  | .hbm, ⟨108, _⟩ => ⟨S_, .f32⟩
  | .hbm, ⟨109, _⟩ => ⟨S4096, .f32⟩
  | .hbm, ⟨110, _⟩ => ⟨S4096, .f32⟩
  | .hbm, ⟨111, _⟩ => ⟨S3x4096, .f32⟩
  | .hbm, ⟨112, _⟩ => ⟨S4096x3, .f32⟩
  | .hbm, ⟨113, _⟩ => ⟨S4096x1, .f32⟩
  | .hbm, ⟨114, _⟩ => ⟨S4096, .f32⟩
  | .hbm, ⟨115, _⟩ => ⟨S4096x1, .f32⟩
  | .hbm, ⟨116, _⟩ => ⟨S4096, .f32⟩
  | .local _ .vmem, ⟨0, _⟩ => ⟨S8x8192, .f32⟩
  | .local _ .vmem, ⟨1, _⟩ => ⟨S8x8192, .f32⟩
  | .local _ .vmem, ⟨2, _⟩ => ⟨S1x8192, .f32⟩
  | .local _ .vmem, ⟨3, _⟩ => ⟨S1x8192, .f32⟩
  | .local _ .vmem, ⟨4, _⟩ => ⟨S64x128, .f32⟩
  | .local _ .vmem, ⟨5, _⟩ => ⟨S64x128, .f32⟩
  | .local _ .vmem, ⟨6, _⟩ => ⟨S128x64, .f32⟩
  | .local _ .vmem, ⟨7, _⟩ => ⟨S128x64, .f32⟩
  | .local _ .vmem, ⟨8, _⟩ => ⟨S256x8, .bf16⟩
  | .local _ .vmem, ⟨9, _⟩ => ⟨S256x256, .bf16⟩
  | .local _ .vmem, ⟨10, _⟩ => ⟨S8x256, .bf16⟩
  | .local _ .vmem, ⟨11, _⟩ => ⟨S128x128, .bf16⟩
  | .local _ .vmem, ⟨12, _⟩ => ⟨S8192x128, .bf16⟩
  | .local _ .vmem, ⟨13, _⟩ => ⟨S1x8192, .f32⟩
  | .local _ .vmem, ⟨14, _⟩ => ⟨S1x8192, .f32⟩
  | .local _ .vmem, ⟨15, _⟩ => ⟨S8x128, .f32⟩
  | .local _ .vmem, ⟨16, _⟩ => ⟨S8x128, .f32⟩
  | .local _ .vmem, ⟨17, _⟩ => ⟨S128x8, .f32⟩
  | .local _ .vmem, ⟨18, _⟩ => ⟨S128x8, .f32⟩
  | _, _ => ⟨S4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_call0_cst : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_c : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_c_0 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_v12 : Ref sig .tc := ⟨.hbm, 26, rfl⟩
abbrev main_call0_v13 : Ref sig .tc := ⟨.hbm, 27, rfl⟩
abbrev main_call0_cst_1 : Ref sig .tc := ⟨.hbm, 28, rfl⟩
abbrev main_call0_v14 : Ref sig .tc := ⟨.hbm, 29, rfl⟩
abbrev main_call0_v15 : Ref sig .tc := ⟨.hbm, 30, rfl⟩
abbrev main_call0_v16 : Ref sig .tc := ⟨.hbm, 31, rfl⟩
abbrev main_call0_c_2 : Ref sig .tc := ⟨.hbm, 32, rfl⟩
abbrev main_call0_v17 : Ref sig .tc := ⟨.hbm, 33, rfl⟩
abbrev main_call0_v18 : Ref sig .tc := ⟨.hbm, 34, rfl⟩
abbrev main_call0_v19 : Ref sig .tc := ⟨.hbm, 35, rfl⟩
abbrev main_call0_v20 : Ref sig .tc := ⟨.hbm, 36, rfl⟩
abbrev main_call0_cst_3 : Ref sig .tc := ⟨.hbm, 37, rfl⟩
abbrev main_call0_v21 : Ref sig .tc := ⟨.hbm, 38, rfl⟩
abbrev main_call0_v22 : Ref sig .tc := ⟨.hbm, 39, rfl⟩
abbrev main_call0_v23 : Ref sig .tc := ⟨.hbm, 40, rfl⟩
abbrev main_call0_c_4 : Ref sig .tc := ⟨.hbm, 41, rfl⟩
abbrev main_call0_v24 : Ref sig .tc := ⟨.hbm, 42, rfl⟩
abbrev main_call0_v25 : Ref sig .tc := ⟨.hbm, 43, rfl⟩
abbrev main_call0_v26 : Ref sig .tc := ⟨.hbm, 44, rfl⟩
abbrev main_call0_v27 : Ref sig .tc := ⟨.hbm, 45, rfl⟩
abbrev main_call0_c_5 : Ref sig .tc := ⟨.hbm, 46, rfl⟩
abbrev main_call0_v28 : Ref sig .tc := ⟨.hbm, 47, rfl⟩
abbrev main_call0_v29 : Ref sig .tc := ⟨.hbm, 48, rfl⟩
abbrev main_call0_v30 : Ref sig .tc := ⟨.hbm, 49, rfl⟩
abbrev main_call0_v31 : Ref sig .tc := ⟨.hbm, 50, rfl⟩
abbrev main_call0_c_6 : Ref sig .tc := ⟨.hbm, 51, rfl⟩
abbrev main_call0_v32 : Ref sig .tc := ⟨.hbm, 52, rfl⟩
abbrev main_call0_v33 : Ref sig .tc := ⟨.hbm, 53, rfl⟩
abbrev main_call0_v34 : Ref sig .tc := ⟨.hbm, 54, rfl⟩
abbrev main_call0_v35 : Ref sig .tc := ⟨.hbm, 55, rfl⟩
abbrev main_call0_cst_7 : Ref sig .tc := ⟨.hbm, 56, rfl⟩
abbrev main_call0_v36 : Ref sig .tc := ⟨.hbm, 57, rfl⟩
abbrev main_call0_call0_v0 : Ref sig .tc := ⟨.hbm, 58, rfl⟩
abbrev main_call0_call0_c : Ref sig .tc := ⟨.hbm, 59, rfl⟩
abbrev main_call0_call0_v1 : Ref sig .tc := ⟨.hbm, 60, rfl⟩
abbrev main_call0_call0_v2 : Ref sig .tc := ⟨.hbm, 61, rfl⟩
abbrev main_call0_call0_v3 : Ref sig .tc := ⟨.hbm, 62, rfl⟩
abbrev main_call0_call0_v4 : Ref sig .tc := ⟨.hbm, 63, rfl⟩
abbrev main_call0_call0_cst : Ref sig .tc := ⟨.hbm, 64, rfl⟩
abbrev main_call0_call0_v5 : Ref sig .tc := ⟨.hbm, 65, rfl⟩
abbrev main_call0_v37 : Ref sig .tc := ⟨.hbm, 66, rfl⟩
abbrev main_call0_call1_v0 : Ref sig .tc := ⟨.hbm, 67, rfl⟩
abbrev main_call0_call1_v1 : Ref sig .tc := ⟨.hbm, 68, rfl⟩
abbrev main_call0_call1_v2 : Ref sig .tc := ⟨.hbm, 69, rfl⟩
abbrev main_call0_call1_v3 : Ref sig .tc := ⟨.hbm, 70, rfl⟩
abbrev main_call0_call1_v4 : Ref sig .tc := ⟨.hbm, 71, rfl⟩
abbrev main_call0_v38 : Ref sig .tc := ⟨.hbm, 72, rfl⟩
abbrev main_call0_v39 : Ref sig .tc := ⟨.hbm, 73, rfl⟩
abbrev main_call0_v40 : Ref sig .tc := ⟨.hbm, 74, rfl⟩
abbrev main_call0_v41 : Ref sig .tc := ⟨.hbm, 75, rfl⟩
abbrev main_call0_c_8 : Ref sig .tc := ⟨.hbm, 76, rfl⟩
abbrev main_call0_call2_v0 : Ref sig .tc := ⟨.hbm, 77, rfl⟩
abbrev main_call0_call2_v1 : Ref sig .tc := ⟨.hbm, 78, rfl⟩
abbrev main_call0_call2_v2 : Ref sig .tc := ⟨.hbm, 79, rfl⟩
abbrev main_call0_call2_v3 : Ref sig .tc := ⟨.hbm, 80, rfl⟩
abbrev main_call0_call2_v4 : Ref sig .tc := ⟨.hbm, 81, rfl⟩
abbrev main_call0_call2_v5 : Ref sig .tc := ⟨.hbm, 82, rfl⟩
abbrev main_call0_call2_v6 : Ref sig .tc := ⟨.hbm, 83, rfl⟩
abbrev main_call0_call2_v7 : Ref sig .tc := ⟨.hbm, 84, rfl⟩
abbrev main_call0_call2_v8 : Ref sig .tc := ⟨.hbm, 85, rfl⟩
abbrev main_call0_call2_c : Ref sig .tc := ⟨.hbm, 86, rfl⟩
abbrev main_call0_call2_v9 : Ref sig .tc := ⟨.hbm, 87, rfl⟩
abbrev main_call0_call2_v10 : Ref sig .tc := ⟨.hbm, 88, rfl⟩
abbrev main_call0_call2_v11 : Ref sig .tc := ⟨.hbm, 89, rfl⟩
abbrev main_call0_call2_c_0 : Ref sig .tc := ⟨.hbm, 90, rfl⟩
abbrev main_call0_call2_v12 : Ref sig .tc := ⟨.hbm, 91, rfl⟩
abbrev main_call0_call2_v13 : Ref sig .tc := ⟨.hbm, 92, rfl⟩
abbrev main_call0_v42 : Ref sig .tc := ⟨.hbm, 93, rfl⟩
abbrev main_call0_v43 : Ref sig .tc := ⟨.hbm, 94, rfl⟩
abbrev main_call0_v44 : Ref sig .tc := ⟨.hbm, 95, rfl⟩
abbrev main_call0_v45 : Ref sig .tc := ⟨.hbm, 96, rfl⟩
abbrev main_call0_v46 : Ref sig .tc := ⟨.hbm, 97, rfl⟩
abbrev main_call0_v47 : Ref sig .tc := ⟨.hbm, 98, rfl⟩
abbrev main_call0_v48 : Ref sig .tc := ⟨.hbm, 99, rfl⟩
abbrev main_call0_v49_0 : Ref sig .tc := ⟨.hbm, 100, rfl⟩
abbrev main_call0_v49_1 : Ref sig .tc := ⟨.hbm, 101, rfl⟩
abbrev main_call0_v49_2 : Ref sig .tc := ⟨.hbm, 102, rfl⟩
abbrev main_v0_0 : Ref sig .tc := ⟨.hbm, 103, rfl⟩
abbrev main_call0_v51 : Ref sig .tc := ⟨.hbm, 104, rfl⟩
abbrev main_v0_1 : Ref sig .tc := ⟨.hbm, 105, rfl⟩
abbrev main_call0_v53 : Ref sig .tc := ⟨.hbm, 106, rfl⟩
abbrev main_call0_v54 : Ref sig .tc := ⟨.hbm, 107, rfl⟩
abbrev main_call0_cst_9 : Ref sig .tc := ⟨.hbm, 108, rfl⟩
abbrev main_call0_v55 : Ref sig .tc := ⟨.hbm, 109, rfl⟩
abbrev main_v0_2 : Ref sig .tc := ⟨.hbm, 110, rfl⟩
abbrev main_call0_v57 : Ref sig .tc := ⟨.hbm, 111, rfl⟩
abbrev main_v0_3 : Ref sig .tc := ⟨.hbm, 112, rfl⟩
abbrev main_call0_v59 : Ref sig .tc := ⟨.hbm, 113, rfl⟩
abbrev main_v0_4 : Ref sig .tc := ⟨.hbm, 114, rfl⟩
abbrev main_call0_v61 : Ref sig .tc := ⟨.hbm, 115, rfl⟩
abbrev main_v0_5 : Ref sig .tc := ⟨.hbm, 116, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S256x8 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8192x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x8192 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x8 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== ReferenceIdeal.lean ====
abbrev S4096x3 : Shape := ⟨2, ![4096, 3]⟩
abbrev S4096x64 : Shape := ⟨2, ![4096, 64]⟩
abbrev S6x256 : Shape := ⟨2, ![6, 256]⟩
abbrev S256 : Shape := ⟨1, ![256]⟩
abbrev S256x256 : Shape := ⟨2, ![256, 256]⟩
abbrev S256x1 : Shape := ⟨2, ![256, 1]⟩
abbrev S256x3 : Shape := ⟨2, ![256, 3]⟩
abbrev S_ : Shape := ⟨0, ![]⟩
abbrev S4096x1x3 : Shape := ⟨3, ![4096, 1, 3]⟩
abbrev S4096x64x1 : Shape := ⟨3, ![4096, 64, 1]⟩
abbrev S4096x64x3 : Shape := ⟨3, ![4096, 64, 3]⟩
abbrev S4096x64x6 : Shape := ⟨3, ![4096, 64, 6]⟩
abbrev S262144x6 : Shape := ⟨2, ![262144, 6]⟩
abbrev S262144x256 : Shape := ⟨2, ![262144, 256]⟩
abbrev S1x256 : Shape := ⟨2, ![1, 256]⟩
abbrev S262144x1 : Shape := ⟨2, ![262144, 1]⟩
abbrev S262144x3 : Shape := ⟨2, ![262144, 3]⟩
abbrev S4096x1 : Shape := ⟨2, ![4096, 1]⟩
abbrev S4096x63 : Shape := ⟨2, ![4096, 63]⟩
abbrev S4096 : Shape := ⟨1, ![4096]⟩

abbrev nBuf : Space → Nat
  | .hbm => 105
  | .vmem => 0
  | .smem => 0
  | _ => 0

abbrev bufTy : (tb : Table) → Fin (tcTables nBuf tb) → BufTy
  | .hbm, ⟨0, _⟩ => ⟨S4096x3, .f32⟩
  | .hbm, ⟨1, _⟩ => ⟨S4096x3, .f32⟩
  | .hbm, ⟨2, _⟩ => ⟨S4096x64, .f32⟩
  | .hbm, ⟨3, _⟩ => ⟨S4096x64, .i32⟩
  | .hbm, ⟨4, _⟩ => ⟨S4096x64, .f32⟩
  | .hbm, ⟨5, _⟩ => ⟨S6x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S256x1, .f32⟩
  | .hbm, ⟨10, _⟩ => ⟨S256x3, .f32⟩
  | .hbm, ⟨11, _⟩ => ⟨S_, .i32⟩
  | .hbm, ⟨12, _⟩ => ⟨S4096x64, .i32⟩
  | .hbm, ⟨13, _⟩ => ⟨S4096x64, .i1⟩
  | .hbm, ⟨14, _⟩ => ⟨S4096x1x3, .f32⟩
  | .hbm, ⟨15, _⟩ => ⟨S4096x1x3, .f32⟩
  | .hbm, ⟨16, _⟩ => ⟨S4096x64x1, .f32⟩
  | .hbm, ⟨17, _⟩ => ⟨S4096x64x3, .f32⟩
  | .hbm, ⟨18, _⟩ => ⟨S4096x64x3, .f32⟩
  | .hbm, ⟨19, _⟩ => ⟨S4096x64x3, .f32⟩
  | .hbm, ⟨20, _⟩ => ⟨S4096x64x3, .f32⟩
  | .hbm, ⟨21, _⟩ => ⟨S4096x64x3, .f32⟩
  | .hbm, ⟨22, _⟩ => ⟨S4096x1x3, .f32⟩
  | .hbm, ⟨23, _⟩ => ⟨S4096x64x3, .f32⟩
  | .hbm, ⟨24, _⟩ => ⟨S4096x64x6, .f32⟩
  | .hbm, ⟨25, _⟩ => ⟨S262144x6, .f32⟩
  | .hbm, ⟨26, _⟩ => ⟨S262144x256, .f32⟩
  | .hbm, ⟨27, _⟩ => ⟨S1x256, .f32⟩
  | .hbm, ⟨28, _⟩ => ⟨S262144x256, .f32⟩
  | .hbm, ⟨29, _⟩ => ⟨S262144x256, .f32⟩
  | .hbm, ⟨30, _⟩ => ⟨S_, .f32⟩
  | .hbm, ⟨31, _⟩ => ⟨S262144x256, .f32⟩
  | .hbm, ⟨32, _⟩ => ⟨S262144x256, .f32⟩
  | .hbm, ⟨33, _⟩ => ⟨S262144x256, .f32⟩
  | .hbm, ⟨34, _⟩ => ⟨S1x256, .f32⟩
  | .hbm, ⟨35, _⟩ => ⟨S262144x256, .f32⟩
  | .hbm, ⟨36, _⟩ => ⟨S262144x256, .f32⟩
  | .hbm, ⟨37, _⟩ => ⟨S_, .f32⟩
  | .hbm, ⟨38, _⟩ => ⟨S262144x256, .f32⟩
  | .hbm, ⟨39, _⟩ => ⟨S262144x256, .f32⟩
  | .hbm, ⟨40, _⟩ => ⟨S262144x1, .f32⟩
  | .hbm, ⟨41, _⟩ => ⟨S4096x64, .f32⟩
  | .hbm, ⟨42, _⟩ => ⟨S262144x3, .f32⟩
  | .hbm, ⟨43, _⟩ => ⟨S262144x3, .f32⟩
  | .hbm, ⟨44, _⟩ => ⟨S262144x3, .f32⟩
  | .hbm, ⟨45, _⟩ => ⟨S_, .f32⟩
  | .hbm, ⟨46, _⟩ => ⟨S262144x3, .f32⟩
  | .hbm, ⟨47, _⟩ => ⟨S262144x3, .f32⟩
  | .hbm, ⟨48, _⟩ => ⟨S_, .f32⟩
  | .hbm, ⟨49, _⟩ => ⟨S262144x3, .f32⟩
  | .hbm, ⟨50, _⟩ => ⟨S262144x3, .f32⟩
  | .hbm, ⟨51, _⟩ => ⟨S4096x64x3, .f32⟩
  | .hbm, ⟨52, _⟩ => ⟨S_, .f32⟩
  | .hbm, ⟨53, _⟩ => ⟨S4096x64, .f32⟩
  | .hbm, ⟨54, _⟩ => ⟨S4096x64, .f32⟩
  | .hbm, ⟨55, _⟩ => ⟨S4096x64, .f32⟩
  | .hbm, ⟨56, _⟩ => ⟨S_, .f32⟩
  | .hbm, ⟨57, _⟩ => ⟨S4096x64, .f32⟩
  | .hbm, ⟨58, _⟩ => ⟨S4096x64, .f32⟩
  | .hbm, ⟨59, _⟩ => ⟨S_, .f32⟩
  | .hbm, ⟨60, _⟩ => ⟨S_, .f32⟩
  | .hbm, ⟨61, _⟩ => ⟨S4096x64, .f32⟩
  | .hbm, ⟨62, _⟩ => ⟨S4096x64, .f32⟩
  | .hbm, ⟨63, _⟩ => ⟨S4096x64x1, .i1⟩
  | .hbm, ⟨64, _⟩ => ⟨S_, .f32⟩
  | .hbm, ⟨65, _⟩ => ⟨S_, .f32⟩
  | .hbm, ⟨66, _⟩ => ⟨S4096x64x3, .i1⟩
  | .hbm, ⟨67, _⟩ => ⟨S4096x64x3, .f32⟩
  | .hbm, ⟨68, _⟩ => ⟨S4096x64x3, .f32⟩
  | .hbm, ⟨69, _⟩ => ⟨S_, .f32⟩
  | .hbm, ⟨70, _⟩ => ⟨S4096x1, .f32⟩
  | .hbm, ⟨71, _⟩ => ⟨S4096x63, .f32⟩
  | .hbm, ⟨72, _⟩ => ⟨S4096x64, .f32⟩
  | .hbm, ⟨73, _⟩ => ⟨S4096x64, .f32⟩
  | .hbm, ⟨74, _⟩ => ⟨S4096x64, .f32⟩
  | .hbm, ⟨75, _⟩ => ⟨S_, .f32⟩
  | .hbm, ⟨76, _⟩ => ⟨S4096x64, .f32⟩
  | .hbm, ⟨77, _⟩ => ⟨S4096x64, .f32⟩
  | .hbm, ⟨78, _⟩ => ⟨S_, .f32⟩
  | .hbm, ⟨79, _⟩ => ⟨S_, .f32⟩
  | .hbm, ⟨80, _⟩ => ⟨S4096x64, .f32⟩
  | .hbm, ⟨81, _⟩ => ⟨S4096x64, .f32⟩
  | .hbm, ⟨82, _⟩ => ⟨S4096x64, .f32⟩
  | .hbm, ⟨83, _⟩ => ⟨S4096x64, .f32⟩
  | .hbm, ⟨84, _⟩ => ⟨S4096x64, .f32⟩
  | .hbm, ⟨85, _⟩ => ⟨S_, .f32⟩
  | .hbm, ⟨86, _⟩ => ⟨S4096, .f32⟩
  | .hbm, ⟨87, _⟩ => ⟨S_, .f32⟩
  | .hbm, ⟨88, _⟩ => ⟨S4096, .f32⟩
  | .hbm, ⟨89, _⟩ => ⟨S_, .f32⟩
  | .hbm, ⟨90, _⟩ => ⟨S4096, .f32⟩
  | .hbm, ⟨91, _⟩ => ⟨S4096, .f32⟩
  | .hbm, ⟨92, _⟩ => ⟨S4096x64x1, .f32⟩
  | .hbm, ⟨93, _⟩ => ⟨S4096x64x3, .f32⟩
  | .hbm, ⟨94, _⟩ => ⟨S4096x64x3, .f32⟩
  | .hbm, ⟨95, _⟩ => ⟨S_, .f32⟩
  | .hbm, ⟨96, _⟩ => ⟨S4096x3, .f32⟩
  | .hbm, ⟨97, _⟩ => ⟨S_, .f32⟩
  | .hbm, ⟨98, _⟩ => ⟨S_, .f32⟩
  | .hbm, ⟨99, _⟩ => ⟨S4096x64, .f32⟩
  | .hbm, ⟨100, _⟩ => ⟨S4096x64, .f32⟩
  | .hbm, ⟨101, _⟩ => ⟨S_, .f32⟩
  | .hbm, ⟨102, _⟩ => ⟨S4096, .f32⟩
  | .hbm, ⟨103, _⟩ => ⟨S_, .f32⟩
  | .hbm, ⟨104, _⟩ => ⟨S4096, .f32⟩
  | _, _ => ⟨S4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_call0_cst : Ref sig .tc := ⟨.hbm, 30, rfl⟩
abbrev main_call0_v0 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_call1_cst : Ref sig .tc := ⟨.hbm, 37, rfl⟩
abbrev main_call1_v0 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst : Ref sig .tc := ⟨.hbm, 45, rfl⟩
abbrev main_v29 : Ref sig .tc := ⟨.hbm, 46, rfl⟩
abbrev main_v30 : Ref sig .tc := ⟨.hbm, 47, rfl⟩
abbrev main_cst_0 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_call2_cst : Ref sig .tc := ⟨.hbm, 52, rfl⟩
abbrev main_call2_v0 : Ref sig .tc := ⟨.hbm, 53, rfl⟩
abbrev main_v34 : Ref sig .tc := ⟨.hbm, 54, rfl⟩
abbrev main_v35 : Ref sig .tc := ⟨.hbm, 55, rfl⟩
abbrev main_cst_1 : Ref sig .tc := ⟨.hbm, 56, rfl⟩
abbrev main_v36 : Ref sig .tc := ⟨.hbm, 57, rfl⟩
abbrev main_v37 : Ref sig .tc := ⟨.hbm, 58, rfl⟩
abbrev main_cst_2 : Ref sig .tc := ⟨.hbm, 59, rfl⟩
abbrev main_call3_v0 : Ref sig .tc := ⟨.hbm, 60, rfl⟩
abbrev main_call3_v1 : Ref sig .tc := ⟨.hbm, 61, rfl⟩
abbrev main_v38 : Ref sig .tc := ⟨.hbm, 62, rfl⟩
abbrev main_v39 : Ref sig .tc := ⟨.hbm, 63, rfl⟩
abbrev main_cst_3 : Ref sig .tc := ⟨.hbm, 64, rfl⟩
abbrev main_call4_v0 : Ref sig .tc := ⟨.hbm, 65, rfl⟩
abbrev main_call4_v1 : Ref sig .tc := ⟨.hbm, 66, rfl⟩
abbrev main_call4_v2 : Ref sig .tc := ⟨.hbm, 67, rfl⟩
abbrev main_v40 : Ref sig .tc := ⟨.hbm, 68, rfl⟩
abbrev main_cst_4 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_5 : Ref sig .tc := ⟨.hbm, 75, rfl⟩
abbrev main_v46 : Ref sig .tc := ⟨.hbm, 76, rfl⟩
abbrev main_v47 : Ref sig .tc := ⟨.hbm, 77, rfl⟩
abbrev main_call5_call0_cst : Ref sig .tc := ⟨.hbm, 78, rfl⟩
abbrev main_call5_call0_v0 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_6 : Ref sig .tc := ⟨.hbm, 85, rfl⟩
abbrev main_v53 : Ref sig .tc := ⟨.hbm, 86, rfl⟩
abbrev main_cst_7 : Ref sig .tc := ⟨.hbm, 87, rfl⟩
abbrev main_v54 : Ref sig .tc := ⟨.hbm, 88, rfl⟩
abbrev main_cst_8 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_cst_9 : Ref sig .tc := ⟨.hbm, 95, rfl⟩
abbrev main_v60 : Ref sig .tc := ⟨.hbm, 96, rfl⟩
abbrev main_cst_10 : Ref sig .tc := ⟨.hbm, 97, rfl⟩
abbrev main_call6_v0 : Ref sig .tc := ⟨.hbm, 98, rfl⟩
abbrev main_call6_v1 : Ref sig .tc := ⟨.hbm, 99, rfl⟩
abbrev main_v61 : Ref sig .tc := ⟨.hbm, 100, rfl⟩
abbrev main_cst_11 : Ref sig .tc := ⟨.hbm, 101, rfl⟩
abbrev main_v62 : Ref sig .tc := ⟨.hbm, 102, rfl⟩
abbrev main_cst_12 : Ref sig .tc := ⟨.hbm, 103, rfl⟩
abbrev main_v63 : Ref sig .tc := ⟨.hbm, 104, rfl⟩

abbrev nD : Nat := 1
abbrev τ : Topo := Topo.v7x

variable {F : FTy → Type} [FloatOps F]
-- ==== Proof.Model.lean ====
/-
  THE RENDERER AS PLAIN FUNCTIONS. `Scene` holds the arguments of the problem by their coordinates; the functions below
  it are the six results and the quantities on the way to them, on the extended reals. Both programs are read as these
  functions; nothing here mentions a program.
-/
module

public import Idealize.ShloMosaic.Lib.Pointwise

@[expose] public section

set_option maxRecDepth 16384

noncomputable section

namespace Cert.Render

open Idealize.ShloMosaic

/-- The arguments the results depend on, by coordinate: ray, sample, feature, unit. -/
structure Scene where
  start : Fin 4096 → Fin 3 → EReal
  dir : Fin 4096 → Fin 3 → EReal
  depth : Fin 4096 → Fin 64 → EReal
  dists : Fin 4096 → Fin 64 → EReal
  W1 : Fin 6 → Fin 256 → EReal
  W2 : Fin 256 → Fin 256 → EReal
  Ws : Fin 256 → EReal
  Wt : Fin 256 → Fin 3 → EReal

/-- The scene of the eight argument arrays the results depend on. -/
def sceneOf (x0 x1 : (⟨2, ![4096, 3]⟩ : Shape).Idx → EReal) (x2 x4 : (⟨2, ![4096, 64]⟩ : Shape).Idx → EReal)
    (x5 : (⟨2, ![6, 256]⟩ : Shape).Idx → EReal) (x7 : (⟨2, ![256, 256]⟩ : Shape).Idx → EReal)
    (x9 : (⟨2, ![256, 1]⟩ : Shape).Idx → EReal) (x10 : (⟨2, ![256, 3]⟩ : Shape).Idx → EReal) : Scene where
  start r j := x0 (ix2 r j)
  dir r j := x1 (ix2 r j)
  depth r s := x2 (ix2 r s)
  dists r s := x4 (ix2 r s)
  W1 k n := x5 (ix2 k n)
  W2 k n := x7 (ix2 k n)
  Ws k := x9 (ix2 k 0)
  Wt k c := x10 (ix2 k c)

variable (S : Scene)

/-- The network's six inputs at a sample: the point on the ray, then the ray's direction. -/
def feat (r : Fin 4096) (s : Fin 64) (j : Fin 6) : EReal :=
  if h : j.val < 3 then S.start r ⟨j.val, h⟩ + S.dir r ⟨j.val, h⟩ * S.depth r s else S.dir r ⟨j.val - 3, by omega⟩

/-- The first hidden layer. -/
def hid1 (r : Fin 4096) (s : Fin 64) (n : Fin 256) : EReal := max (∑ k : Fin 6, feat S r s k * S.W1 k n) 0

/-- The second hidden layer. -/
def hid2 (r : Fin 4096) (s : Fin 64) (n : Fin 256) : EReal := max (∑ k : Fin 256, hid1 S r s k * S.W2 k n) 0

/-- The density before its rectifier. -/
def sigma (r : Fin 4096) (s : Fin 64) : EReal := ∑ k : Fin 256, hid2 S r s k * S.Ws k

/-- The colour of a sample. -/
def tex (r : Fin 4096) (s : Fin 64) (c : Fin 3) : EReal := Ideal.logistic (∑ k : Fin 256, hid2 S r s k * S.Wt k c)

/-- The free energy of a sample: rectified density times the sample's length times seven. -/
def energy (r : Fin 4096) (s : Fin 64) : EReal := max (sigma S r s) 0 * S.dists r s * Ideal.ofBits .f32 0x40E00000#32

/-- The energy in front of a sample on its ray. -/
def before (r : Fin 4096) (s : Fin 64) : EReal := ∑ j : Fin 64, if j.val < s.val then energy S r j else 0

/-- The probability that the ray ends at the sample. -/
def prob (r : Fin 4096) (s : Fin 64) : EReal := (1 - Ideal.exp (-energy S r s)) * Ideal.exp (-before S r s)

/-- The expected depth of a ray. -/
def meanDepth (r : Fin 4096) : EReal := ∑ s : Fin 64, S.depth r s * prob S r s

/-- The probability that a ray ends at one of its samples. -/
def total (r : Fin 4096) : EReal := ∑ s : Fin 64, prob S r s

/-- The colour of a ray. -/
def color (r : Fin 4096) (c : Fin 3) : EReal := ∑ s : Fin 64, tex S r s c * prob S r s

/-- The largest depth of a ray's samples. -/
def far (r : Fin 4096) : EReal := Finset.univ.fold max ⊥ (S.depth r)

/-- The smallest depth of a ray's samples. -/
def near (r : Fin 4096) : EReal := Finset.univ.fold min ⊤ (S.depth r)

/-! ## Finite values -/

/-- An extended real that is a real number. -/
def IsReal (x : EReal) : Prop := ∃ r : ℝ, x = (r : EReal)

/-- A sum of reals is real. -/
theorem IsReal.add {x y : EReal} : IsReal x → IsReal y → IsReal (x + y)
  | ⟨a, ha⟩, ⟨b, hb⟩ => ⟨a + b, by rw [ha, hb, EReal.coe_add]⟩

/-- A product of reals is real. -/
theorem IsReal.mul {x y : EReal} : IsReal x → IsReal y → IsReal (x * y)
  | ⟨a, ha⟩, ⟨b, hb⟩ => ⟨a * b, by rw [ha, hb, EReal.coe_mul]⟩

/-- A difference of reals is real. -/
theorem IsReal.sub {x y : EReal} : IsReal x → IsReal y → IsReal (x - y)
  | ⟨a, ha⟩, ⟨b, hb⟩ => ⟨a - b, by rw [ha, hb, EReal.coe_sub]⟩

/-- The negative of a real is real. -/
theorem IsReal.neg {x : EReal} : IsReal x → IsReal (-x)
  | ⟨a, ha⟩ => ⟨-a, by rw [ha, EReal.coe_neg]⟩

/-- Zero is real. -/
theorem isReal_zero : IsReal 0 := ⟨0, EReal.coe_zero.symm⟩

/-- One is real. -/
theorem isReal_one : IsReal 1 := ⟨1, EReal.coe_one.symm⟩

/-- The larger of two real numbers is one of them. -/
theorem IsReal.max {x y : EReal} (hx : IsReal x) (hy : IsReal y) : IsReal (Max.max x y) := by
  rcases max_choice x y with h | h <;> rw [h] <;> assumption

/-- A finite sum of real numbers is one. -/
theorem isReal_sum {ι : Type} (A : Finset ι) (f : ι → EReal) (h : ∀ i ∈ A, IsReal (f i)) : IsReal (∑ i ∈ A, f i) :=
  Finset.sum_induction f IsReal (fun _ _ => IsReal.add) isReal_zero h

/-- The exponential of a real is real. -/
theorem IsReal.exp {x : EReal} : IsReal x → IsReal (Ideal.exp x)
  | ⟨a, ha⟩ => ⟨Real.exp a, by rw [ha]; rfl⟩

/-- The logistic function is real everywhere, at the infinities too. -/
theorem isReal_logistic (x : EReal) : IsReal (Ideal.logistic x) := by
  induction x using EReal.rec with
  | bot => rw [Ideal.logistic_bot]; exact isReal_zero
  | top => rw [Ideal.logistic_top]; exact isReal_one
  | coe a => exact ⟨_, Ideal.logistic_coe a⟩

/-- A real number minus itself is zero. -/
theorem IsReal.sub_self {x : EReal} : IsReal x → x - x = 0
  | ⟨a, ha⟩ => by rw [ha, ← EReal.coe_sub, _root_.sub_self, EReal.coe_zero]

/-- A value whose magnitude lies below `⊤` is real. -/
theorem isReal_of_abs_lt_top {x : EReal} (h1 : x ≠ ⊤) (h2 : x ≠ ⊥) : IsReal x :=
  ⟨x.toReal, (EReal.coe_toReal h1 h2).symm⟩

/-- The constant seven is real. -/
theorem isReal_seven : IsReal (Ideal.ofBits .f32 0x40E00000#32) := by
  refine ⟨7, ?_⟩
  simp [Ideal.ofBits, Ideal.ieee, -EReal.coe_mul]
  norm_num

/-- The finiteness the claim asks of the scene's arguments. -/
structure Scene.Finite : Prop where
  start : ∀ r j, IsReal (S.start r j)
  dir : ∀ r j, IsReal (S.dir r j)
  depth : ∀ r s, IsReal (S.depth r s)
  dists : ∀ r s, IsReal (S.dists r s)
  W1 : ∀ k n, IsReal (S.W1 k n)
  W2 : ∀ k n, IsReal (S.W2 k n)
  Ws : ∀ k, IsReal (S.Ws k)

variable {S} (hS : S.Finite)
include hS

/-- The network's inputs are real. -/
theorem isReal_feat (r : Fin 4096) (s : Fin 64) (j : Fin 6) : IsReal (feat S r s j) := by
  unfold feat
  split
  · exact (hS.start _ _).add ((hS.dir _ _).mul (hS.depth _ _))
  · exact hS.dir _ _

/-- The first layer's values are real. -/
theorem isReal_hid1 (r : Fin 4096) (s : Fin 64) (n : Fin 256) : IsReal (hid1 S r s n) :=
  (isReal_sum _ _ fun _ _ => (isReal_feat hS _ _ _).mul (hS.W1 _ _)).max isReal_zero

/-- The second layer's values are real. -/
theorem isReal_hid2 (r : Fin 4096) (s : Fin 64) (n : Fin 256) : IsReal (hid2 S r s n) :=
  (isReal_sum _ _ fun _ _ => (isReal_hid1 hS _ _ _).mul (hS.W2 _ _)).max isReal_zero

/-- The free energy is real. -/
theorem isReal_energy (r : Fin 4096) (s : Fin 64) : IsReal (energy S r s) :=
  (((isReal_sum _ _ fun _ _ => (isReal_hid2 hS _ _ _).mul (hS.Ws _)).max isReal_zero).mul (hS.dists _ _)).mul isReal_seven

/-- The probability of a sample is real. -/
theorem isReal_prob (r : Fin 4096) (s : Fin 64) : IsReal (prob S r s) := by
  refine (isReal_one.sub (isReal_energy hS r s).neg.exp).mul (IsReal.exp (IsReal.neg (isReal_sum _ _ fun j _ => ?_)))
  split
  · exact isReal_energy hS r j
  · exact isReal_zero

omit hS

/-! ## Sums over the samples of one ray -/

/-- Of `n` segments of `m` consecutive positions, a sum restricted to segment `q` is the sum over its `m` positions. -/
theorem sum_segment (n m N : Nat) (hN : N = n * m) (q : Fin n) (g : Fin N → EReal)
    (hlt : ∀ j : Fin m, q.val * m + j.val < N) :
    (∑ p : Fin N, if p.val / m = q.val then g p else 0) = ∑ j : Fin m, g ⟨q.val * m + j.val, hlt j⟩ := by
  subst hN
  rw [← (finProdFinEquiv (m := n) (n := m)).sum_comp, Fintype.sum_prod_type, Finset.sum_eq_single q]
  · refine Finset.sum_congr rfl fun j _ => ?_
    have hm : 0 < m := lt_of_le_of_lt (Nat.zero_le _) j.isLt
    have hv : (finProdFinEquiv (q, j)).val = q.val * m + j.val := by
      simp only [finProdFinEquiv_apply_val]; rw [Nat.mul_comm, Nat.add_comm]
    rw [if_pos (by rw [hv, Nat.mul_comm, Nat.mul_add_div hm, Nat.div_eq_of_lt j.isLt, Nat.add_zero])]
    exact congrArg g (Fin.ext hv)
  · intro q' _ hq
    refine Finset.sum_eq_zero fun j _ => if_neg fun h => hq (Fin.ext ?_)
    have hm : 0 < m := lt_of_le_of_lt (Nat.zero_le _) j.isLt
    have hv : (finProdFinEquiv (q', j)).val = q'.val * m + j.val := by
      simp only [finProdFinEquiv_apply_val]; rw [Nat.mul_comm, Nat.add_comm]
    rwa [hv, Nat.mul_comm, Nat.mul_add_div hm, Nat.div_eq_of_lt j.isLt, Nat.add_zero] at h
  · exact fun h => absurd (Finset.mem_univ q) h

end Cert.Render

end
-- ==== Proof.Scatter.lean ====
/-
  THE HOST'S FOUR SCATTERS AT AN INDEX. Each writes one window at a constant start into an operand: where the window lies
  the element is the update's, elsewhere the operand's.
-/
module

public import Idealize.ShloMosaic.Lib.Pointwise
public import Idealize.ShloMosaic.Lib.Routing.OpsSet
public import proofs.«01_k».proof.Proof.Gen.KernelIdeal.Frame

@[expose] public section

set_option maxRecDepth 16384

noncomputable section

namespace Cert.KernelIdeal.Hand

open Idealize.ShloMosaic Cert.KernelIdeal Cert.KernelIdeal.Gen

variable {w : Nat} (idx : IVec S1 w) (n : Nat) (hz : ∀ i, (idx i).toInt = (n : Int))
include hz

/-- Where an update of a ray's three coordinates lands. -/
theorem lands_rays (k : S3x4096x64.Idx) (ι : S8x4096x64.Idx) :
    scatter_S8x4096x64_S1_S3x4096x64_012_n_0_0.resultIdx? k idx = some ι
      ↔ n + (k 0).val = (ι 0).val ∧ (k 1).val = (ι 1).val ∧ (k 2).val = (ι 2).val := by
  have w0 : scatter_S8x4096x64_S1_S3x4096x64_012_n_0_0.window k 0 = (k 0).val := by
    unfold ScatterDims.window; rw [dif_pos (by decide)]; rfl
  have s0 : scatter_S8x4096x64_S1_S3x4096x64_012_n_0_0.start k idx 0 = (n : Int) := by
    unfold ScatterDims.start; rw [dif_pos (by decide), hz]
  have w1 : scatter_S8x4096x64_S1_S3x4096x64_012_n_0_0.window k 1 = (k 1).val := by
    unfold ScatterDims.window; rw [dif_pos (by decide)]; rfl
  have s1 : scatter_S8x4096x64_S1_S3x4096x64_012_n_0_0.start k idx 1 = 0 := by
    unfold ScatterDims.start; rw [dif_neg (by decide)]
  have w2 : scatter_S8x4096x64_S1_S3x4096x64_012_n_0_0.window k 2 = (k 2).val := by
    unfold ScatterDims.window; rw [dif_pos (by decide)]; rfl
  have s2 : scatter_S8x4096x64_S1_S3x4096x64_012_n_0_0.start k idx 2 = 0 := by
    unfold ScatterDims.start; rw [dif_neg (by decide)]
  rw [Routing.resultIdx?_eq_some]
  constructor
  · intro h
    have h0 := h 0
    rw [w0, s0] at h0
    have h1 := h 1
    rw [w1, s1] at h1
    have h2 := h 2
    rw [w2, s2] at h2
    omega
  · rintro ⟨h0, h1, h2⟩ a
    match a with
    | ⟨0, _⟩ =>
      show scatter_S8x4096x64_S1_S3x4096x64_012_n_0_0.start k idx 0 + (scatter_S8x4096x64_S1_S3x4096x64_012_n_0_0.window k 0 : Int) = ((ι 0).val : Int)
      rw [s0, w0]
      omega
    | ⟨1, _⟩ =>
      show scatter_S8x4096x64_S1_S3x4096x64_012_n_0_0.start k idx 1 + (scatter_S8x4096x64_S1_S3x4096x64_012_n_0_0.window k 1 : Int) = ((ι 1).val : Int)
      rw [s1, w1]
      omega
    | ⟨2, _⟩ =>
      show scatter_S8x4096x64_S1_S3x4096x64_012_n_0_0.start k idx 2 + (scatter_S8x4096x64_S1_S3x4096x64_012_n_0_0.window k 2 : Int) = ((ι 2).val : Int)
      rw [s2, w2]
      omega

/-- A scatter of a ray's three coordinates, read at an element. -/
theorem rays_apply (x0 : S8x4096x64.Idx → EReal) (upd : S3x4096x64.Idx → EReal) (j : Fin 8) (r : Fin 4096) (s : Fin 64) :
    Host.scatter scatter_S8x4096x64_S1_S3x4096x64_012_n_0_0 (fun _ b => b) x0 idx upd (ix3 j r s)
      = if h : n ≤ j.val ∧ j.val < n + 3 then upd (ix3 ⟨j.val - n, by omega⟩ r s) else x0 (ix3 j r s) := by
  split
  · rename_i h
    refine Routing.scatter_set_hit _ x0 idx upd _ _ (fun k hk => ?_) (ix3 ⟨j.val - n, by omega⟩ r s) ?_
    · have e := (lands_rays idx n hz k _).1 hk
      refine congrArg upd ((eq_ix3 k).trans ?_)
      obtain ⟨e0, e1, e2⟩ := e
      have g0 : k 0 = (⟨j.val - n, by omega⟩ : Fin 3) := Fin.ext (by
        show (k 0).val = j.val - n
        have : n + (k 0).val = j.val := e0
        omega)
      have g1 : k 1 = r := Fin.ext e1
      have g2 : k 2 = s := Fin.ext e2
      rw [g0, g1, g2]
    · refine (lands_rays idx n hz _ _).2 ⟨?_, ?_, ?_⟩
      · show n + (j.val - n) = j.val
        omega
      · rfl
      · rfl
  · rename_i h
    refine Routing.scatter_set_miss _ x0 idx upd _ fun k hk => h ?_
    have e := ((lands_rays idx n hz k _).1 hk).1
    have e' : n + (k 0).val = j.val := e
    have b : (k 0).val < 3 := (k 0).isLt
    omega

/-- Where an update of six columns lands. -/
theorem lands_cols (k : S256x6.Idx) (ι : S256x8.Idx) :
    scatter_S256x8_S1_S256x6_01_n_1_0.resultIdx? k idx = some ι
      ↔ (k 0).val = (ι 0).val ∧ n + (k 1).val = (ι 1).val := by
  have w0 : scatter_S256x8_S1_S256x6_01_n_1_0.window k 0 = (k 0).val := by
    unfold ScatterDims.window; rw [dif_pos (by decide)]; rfl
  have s0 : scatter_S256x8_S1_S256x6_01_n_1_0.start k idx 0 = 0 := by
    unfold ScatterDims.start; rw [dif_neg (by decide)]
  have w1 : scatter_S256x8_S1_S256x6_01_n_1_0.window k 1 = (k 1).val := by
    unfold ScatterDims.window; rw [dif_pos (by decide)]; rfl
  have s1 : scatter_S256x8_S1_S256x6_01_n_1_0.start k idx 1 = (n : Int) := by
    unfold ScatterDims.start; rw [dif_pos (by decide), hz]
  rw [Routing.resultIdx?_eq_some]
  constructor
  · intro h
    have h0 := h 0
    rw [w0, s0] at h0
    have h1 := h 1
    rw [w1, s1] at h1
    omega
  · rintro ⟨h0, h1⟩ a
    match a with
    | ⟨0, _⟩ =>
      show scatter_S256x8_S1_S256x6_01_n_1_0.start k idx 0 + (scatter_S256x8_S1_S256x6_01_n_1_0.window k 0 : Int) = ((ι 0).val : Int)
      rw [s0, w0]
      omega
    | ⟨1, _⟩ =>
      show scatter_S256x8_S1_S256x6_01_n_1_0.start k idx 1 + (scatter_S256x8_S1_S256x6_01_n_1_0.window k 1 : Int) = ((ι 1).val : Int)
      rw [s1, w1]
      omega

/-- A scatter of six columns, read at an element. -/
theorem cols_apply (x0 : S256x8.Idx → EReal) (upd : S256x6.Idx → EReal) (j : Fin 256) (r : Fin 8) :
    Host.scatter scatter_S256x8_S1_S256x6_01_n_1_0 (fun _ b => b) x0 idx upd (ix2 j r)
      = if h : n ≤ r.val ∧ r.val < n + 6 then upd (ix2 j ⟨r.val - n, by omega⟩) else x0 (ix2 j r) := by
  split
  · rename_i h
    refine Routing.scatter_set_hit _ x0 idx upd _ _ (fun k hk => ?_) (ix2 j ⟨r.val - n, by omega⟩) ?_
    · have e := (lands_cols idx n hz k _).1 hk
      refine congrArg upd ((eq_ix2 k).trans ?_)
      obtain ⟨e0, e1⟩ := e
      have g0 : k 0 = j := Fin.ext e0
      have g1 : k 1 = (⟨r.val - n, by omega⟩ : Fin 6) := Fin.ext (by
        show (k 1).val = r.val - n
        have : n + (k 1).val = r.val := e1
        omega)
      rw [g0, g1]
    · refine (lands_cols idx n hz _ _).2 ⟨?_, ?_⟩
      · rfl
      · show n + (r.val - n) = r.val
        omega
  · rename_i h
    refine Routing.scatter_set_miss _ x0 idx upd _ fun k hk => h ?_
    have e := ((lands_cols idx n hz k _).1 hk).2
    have e' : n + (k 1).val = r.val := e
    have b : (k 1).val < 6 := (k 1).isLt
    omega

/-- Where an update of one row lands. -/
theorem lands_row (k : S256.Idx) (ι : S8x256.Idx) :
    scatter_S8x256_S1_S256_0_0_0_0.resultIdx? k idx = some ι
      ↔ n = (ι 0).val ∧ (k 0).val = (ι 1).val := by
  have w0 : scatter_S8x256_S1_S256_0_0_0_0.window k 0 = 0 := by
    unfold ScatterDims.window; rw [dif_neg (by decide)]
  have s0 : scatter_S8x256_S1_S256_0_0_0_0.start k idx 0 = (n : Int) := by
    unfold ScatterDims.start; rw [dif_pos (by decide), hz]
  have w1 : scatter_S8x256_S1_S256_0_0_0_0.window k 1 = (k 0).val := by
    unfold ScatterDims.window; rw [dif_pos (by decide)]; rfl
  have s1 : scatter_S8x256_S1_S256_0_0_0_0.start k idx 1 = 0 := by
    unfold ScatterDims.start; rw [dif_neg (by decide)]
  rw [Routing.resultIdx?_eq_some]
  constructor
  · intro h
    have h0 := h 0
    rw [w0, s0] at h0
    have h1 := h 1
    rw [w1, s1] at h1
    omega
  · rintro ⟨h0, h1⟩ a
    match a with
    | ⟨0, _⟩ =>
      show scatter_S8x256_S1_S256_0_0_0_0.start k idx 0 + (scatter_S8x256_S1_S256_0_0_0_0.window k 0 : Int) = ((ι 0).val : Int)
      rw [s0, w0]
      omega
    | ⟨1, _⟩ =>
      show scatter_S8x256_S1_S256_0_0_0_0.start k idx 1 + (scatter_S8x256_S1_S256_0_0_0_0.window k 1 : Int) = ((ι 1).val : Int)
      rw [s1, w1]
      omega

/-- A scatter of one row, read at an element. -/
theorem row_apply (x0 : S8x256.Idx → EReal) (upd : S256.Idx → EReal) (j : Fin 8) (r : Fin 256) :
    Host.scatter scatter_S8x256_S1_S256_0_0_0_0 (fun _ b => b) x0 idx upd (ix2 j r)
      = if n = j.val then upd (ix1 r) else x0 (ix2 j r) := by
  split
  · rename_i h
    refine Routing.scatter_set_hit _ x0 idx upd _ _ (fun k hk => ?_) (ix1 r) ?_
    · have e := (lands_row idx n hz k _).1 hk
      refine congrArg upd ((eq_ix1 k).trans ?_)
      obtain ⟨e0, e1⟩ := e
      refine congrArg  ix1 (Fin.ext ?_)
      exact e1
    · refine (lands_row idx n hz _ _).2 ⟨?_, ?_⟩
      · exact h
      · rfl
  · rename_i h
    refine Routing.scatter_set_miss _ x0 idx upd _ fun k hk => h ?_
    have e := ((lands_row idx n hz k _).1 hk).1
    exact e

/-- Where an update of three rows lands. -/
theorem lands_rows (k : S3x256.Idx) (ι : S8x256.Idx) :
    scatter_S8x256_S1_S3x256_01_n_0_0.resultIdx? k idx = some ι
      ↔ n + (k 0).val = (ι 0).val ∧ (k 1).val = (ι 1).val := by
  have w0 : scatter_S8x256_S1_S3x256_01_n_0_0.window k 0 = (k 0).val := by
    unfold ScatterDims.window; rw [dif_pos (by decide)]; rfl
  have s0 : scatter_S8x256_S1_S3x256_01_n_0_0.start k idx 0 = (n : Int) := by
    unfold ScatterDims.start; rw [dif_pos (by decide), hz]
  have w1 : scatter_S8x256_S1_S3x256_01_n_0_0.window k 1 = (k 1).val := by
    unfold ScatterDims.window; rw [dif_pos (by decide)]; rfl
  have s1 : scatter_S8x256_S1_S3x256_01_n_0_0.start k idx 1 = 0 := by
    unfold ScatterDims.start; rw [dif_neg (by decide)]
  rw [Routing.resultIdx?_eq_some]
  constructor
  · intro h
    have h0 := h 0
    rw [w0, s0] at h0
    have h1 := h 1
    rw [w1, s1] at h1
    omega
  · rintro ⟨h0, h1⟩ a
    match a with
    | ⟨0, _⟩ =>
      show scatter_S8x256_S1_S3x256_01_n_0_0.start k idx 0 + (scatter_S8x256_S1_S3x256_01_n_0_0.window k 0 : Int) = ((ι 0).val : Int)
      rw [s0, w0]
      omega
    | ⟨1, _⟩ =>
      show scatter_S8x256_S1_S3x256_01_n_0_0.start k idx 1 + (scatter_S8x256_S1_S3x256_01_n_0_0.window k 1 : Int) = ((ι 1).val : Int)
      rw [s1, w1]
      omega

/-- A scatter of three rows, read at an element. -/
theorem rows_apply (x0 : S8x256.Idx → EReal) (upd : S3x256.Idx → EReal) (j : Fin 8) (r : Fin 256) :
    Host.scatter scatter_S8x256_S1_S3x256_01_n_0_0 (fun _ b => b) x0 idx upd (ix2 j r)
      = if h : n ≤ j.val ∧ j.val < n + 3 then upd (ix2 ⟨j.val - n, by omega⟩ r) else x0 (ix2 j r) := by
  split
  · rename_i h
    refine Routing.scatter_set_hit _ x0 idx upd _ _ (fun k hk => ?_) (ix2 ⟨j.val - n, by omega⟩ r) ?_
    · have e := (lands_rows idx n hz k _).1 hk
      refine congrArg upd ((eq_ix2 k).trans ?_)
      obtain ⟨e0, e1⟩ := e
      have g0 : k 0 = (⟨j.val - n, by omega⟩ : Fin 3) := Fin.ext (by
        show (k 0).val = j.val - n
        have : n + (k 0).val = j.val := e0
        omega)
      have g1 : k 1 = r := Fin.ext e1
      rw [g0, g1]
    · refine (lands_rows idx n hz _ _).2 ⟨?_, ?_⟩
      · show n + (j.val - n) = j.val
        omega
      · rfl
  · rename_i h
    refine Routing.scatter_set_miss _ x0 idx upd _ fun k hk => h ?_
    have e := ((lands_rows idx n hz k _).1 hk).1
    have e' : n + (k 0).val = j.val := e
    have b : (k 0).val < 3 := (k 0).isLt
    omega

end Cert.KernelIdeal.Hand

end
-- ==== Proof.Words.lean ====
/-
  THE INDICATOR WORDS. The host builds its two indicator matrices from index words: a comparison of positions selected
  against an equality of ray numbers, and a floor division by the samples of a ray compared with a ray number.
-/
module

public import Idealize.ShloMosaic.Lib.Pointwise
public import Idealize.ShloMosaic.Lib.WordCmp
public import Idealize.ShloMosaic.Lib.Routing.Words

@[expose] public section

noncomputable section

namespace Cert.Render

open Idealize.ShloMosaic

/-- The one-bit word of a proposition, as an extended real. -/
theorem uitofp_ofBool (φ : FTy) (P : Prop) [Decidable P] :
    FloatOps.uitofp (F := Ideal) φ (BitVec.ofBool (decide P)) = if P then (1 : EReal) else 0 := by
  show (((BitVec.ofBool (decide P)).toNat : ℝ) : EReal) = _
  by_cases h : P
  · rw [if_pos h, decide_eq_true h]
    simp
  · rw [if_neg h, decide_eq_false h]
    simp

/-- Equality of two small index words. -/
theorem cmpi_eq_small {a b : Nat} (ha : a < 2 ^ 31) (hb : b < 2 ^ 31) :
    IntOp.cmpi .eq (BitVec.ofNat 32 a) (BitVec.ofNat 32 b) = BitVec.ofBool (decide (a = b)) := by
  rw [WordCmp.cmpi_eq_eq_toNat, BitVec.toNat_ofNat, BitVec.toNat_ofNat, Nat.mod_eq_of_lt (by omega), Nat.mod_eq_of_lt (by omega)]

/-- Zero where one position is at or behind another, else whether two ray numbers agree. -/
theorem before_word {a b x y : Nat} (ha : a < 2 ^ 31) (hb : b < 2 ^ 31) (hx : x < 2 ^ 31) (hy : y < 2 ^ 31) :
    Scalar.select (IntOp.cmpi .sge (IntOp.addi (BitVec.ofNat 32 a) 0#32) (BitVec.ofNat 32 b)) (0 : EReal)
      (FloatOps.uitofp (F := Ideal) .f32 (IntOp.cmpi .eq (IntOp.addi (BitVec.ofNat 32 x) 0#32) (BitVec.ofNat 32 y)))
      = if x = y ∧ a < b then 1 else 0 := by
  have z : ∀ v : BitVec 32, IntOp.addi v 0#32 = v := fun v => BitVec.add_zero v
  rw [z, z, cmpi_eq_small hx hy, uitofp_ofBool, WordCmp.cmpi_sge_ofNat ha hb]
  by_cases h : a < b
  · have : ¬ b ≤ a := by omega
    simp [Scalar.select, this, h]
  · have : b ≤ a := by omega
    simp [Scalar.select, this, h]

/-- Which ray a flat sample of a block lies on. -/
theorem ray_word {p r : Nat} (hp : p < 8192) (hr : r < 128) :
    FloatOps.uitofp (F := Ideal) .bf16
      (IntOp.cmpi .eq
        (Scalar.select
          (IntOp.andi
            (IntOp.cmpi .ne
              (if BitVec.ofNat 32 p = 0 then 0 else if (BitVec.ofNat 32 p).msb = true then -1 else 1)
              (if (64#32) = 0 then (0 : BitVec 32) else if BitVec.msb (64#32) = true then -1 else 1))
            (IntOp.cmpi .ne (IntOp.remsi .host (BitVec.ofNat 32 p) 64#32) 0#32))
          (IntOp.subi (IntOp.divsi .host (BitVec.ofNat 32 p) 64#32) 1#32)
          (IntOp.divsi .host (BitVec.ofNat 32 p) 64#32))
        (BitVec.ofNat 32 r))
      = if p / 64 = r then (1 : EReal) else 0 := by
  have h0 : IntOp.andi
      (IntOp.cmpi .ne
        (if BitVec.ofNat 32 p = 0 then 0 else if (BitVec.ofNat 32 p).msb = true then -1 else 1)
        (if (64#32) = 0 then (0 : BitVec 32) else if BitVec.msb (64#32) = true then -1 else 1))
      (IntOp.cmpi .ne (IntOp.remsi .host (BitVec.ofNat 32 p) 64#32) 0#32) = 0#1 := by
    rcases Nat.eq_zero_or_pos p with rfl | hpos
    · rfl
    · have hne : BitVec.ofNat 32 p ≠ 0 := fun e => by
        have := congrArg BitVec.toNat e
        rw [BitVec.toNat_ofNat, Nat.mod_eq_of_lt (by omega)] at this
        exact absurd this (by simp; omega)
      have hm : (BitVec.ofNat 32 p).msb = false := by
        rw [BitVec.msb_eq_decide, BitVec.toNat_ofNat, Nat.mod_eq_of_lt (by omega)]
        exact decide_eq_false (by omega)
      rw [if_neg hne, hm]
      have : ∀ v : BitVec 1, IntOp.andi 0#1 v = 0#1 := by decide
      exact this _
  rw [h0, show (64#32) = BitVec.ofNat 32 64 from rfl, Routing.divsi_word .host (by omega) (by omega) (by omega)]
  show FloatOps.uitofp (F := Ideal) .bf16 (IntOp.cmpi .eq (BitVec.ofNat 32 (p / 64)) (BitVec.ofNat 32 r)) = _
  rw [cmpi_eq_small (by omega) (by omega), uitofp_ofBool]

end Cert.Render

end
-- ==== Proof.Entry.lean ====
/-
  THE ARRAYS THE KERNEL'S REGION STARTS FROM, at an index. The host lays the rays' coordinates out by feature and flat
  sample, pads the first layer's weights with two zero columns, puts the two output layers in one matrix, and writes two
  indicator matrices: of the samples in front of one on its ray, and of the samples on a ray.
-/
module

public import Idealize.ShloMosaic.Lib.Claim
public import Idealize.ShloMosaic.Lib.Pointwise
public import proofs.«01_k».proof.Proof.Model
public import proofs.«01_k».proof.Proof.Scatter
public import proofs.«01_k».proof.Proof.Words

@[expose] public section

set_option maxRecDepth 16384

noncomputable section

namespace Cert.KernelIdeal.Hand

open Idealize.ShloMosaic Idealize.ShloMosaic.TcCoe Cert.KernelIdeal Cert.KernelIdeal.Gen

variable (m : (ℓ : Loc nD τ sig) → Buf (Elt Ideal) ℓ) (c : Dev nD)

/-- The scene a device's argument buffers hold. -/
def scene : Render.Scene :=
  Render.sceneOf (m ((c : Thread nD τ).loc main_arg0)) (m ((c : Thread nD τ).loc main_arg1)) (m ((c : Thread nD τ).loc main_arg2))
    (m ((c : Thread nD τ).loc main_arg4)) (m ((c : Thread nD τ).loc main_arg5)) (m ((c : Thread nD τ).loc main_arg7))
    (m ((c : Thread nD τ).loc main_arg9)) (m ((c : Thread nD τ).loc main_arg10))

/-- The rays' coordinates by feature and flat sample. -/
def rayT : S8x262144.Idx → EReal := V m c main_call0_v11
/-- The depths by flat sample. -/
def depthT : S1x262144.Idx → EReal := V m c main_call0_v12
/-- The samples' lengths, two rays to a row. -/
def distsM : S2048x128.Idx → EReal := V m c main_call0_v13
/-- The depths. -/
def depthM : S4096x64.Idx → EReal := V m c main_arg2
/-- The first layer's weights. -/
def w1T : S256x8.Idx → EReal := V m c main_call0_v18
/-- The second layer's weights. -/
def w2T : S256x256.Idx → EReal := V m c main_call0_v20
/-- The two output layers' weights. -/
def wcat : S8x256.Idx → EReal := V m c main_call0_v29
/-- The indicator of the samples in front of one on its ray. -/
def t2 : S128x128.Idx → EReal := V m c main_call0_v39
/-- The indicator of the samples on a ray. -/
def seg : S8192x128.Idx → EReal := V m c main_call0_v48

/-- The depths are the argument's. -/
theorem depthM_apply (r : Fin 4096) (s : Fin 64) : depthM m c (ix2 r s) = (scene m c).depth r s := by
  unfold depthM
  rw [V_main_arg2]
  rfl

set_option maxHeartbeats 4000000 in
/-- Rows 0 to 2 are the rays' starts, rows 3 to 5 their directions, the rest zero. -/
theorem rayT_apply (j : Fin 8) (p : Fin 262144) :
    rayT m c (ix2 j p) = if h : j.val < 3 then (scene m c).start ⟨p.val / 64, by omega⟩ ⟨j.val, h⟩
      else if h : j.val < 6 then (scene m c).dir ⟨p.val / 64, by omega⟩ ⟨j.val - 3, by omega⟩ else 0 := by
  unfold rayT V V0
  simp only [hostOps0, List.flatten_cons, List.flatten_nil, List.append_nil, List.cons_append, List.nil_append]
  after_results
  simp only [StableHlo.TRef.toBuf, StableHlo.TRef.ofBuf, StableHlo.TRef.of]
  repeat rw [cast_eq]
  have e : ∀ (f : S8x4096x64.Idx → EReal), shapeCast S8x262144 f shapeCasts_S8x4096x64_S8x262144 (ix2 j p)
      = f (ix3 j ⟨p.val / 64, by omega⟩ ⟨p.val % 64, by omega⟩) := by
    intro f
    pointwise
  refine (e _).trans ?_
  rw [rays_apply _ 3 (fun _ => rfl), rays_apply _ 0 (fun _ => rfl)]
  pointwise
  by_cases h3 : j.val < 3
  · rw [dif_neg (by omega), dif_pos h3, dif_pos h3]
    rfl
  · by_cases h6 : j.val < 6
    · rw [dif_pos ⟨by omega, h6⟩, dif_neg h3, dif_pos h6]
      rfl
    · rw [dif_neg (by omega), dif_neg h3, dif_neg h3, dif_neg h6]

set_option maxHeartbeats 4000000 in
/-- The depths, by flat sample. -/
theorem depthT_apply (p : Fin 262144) :
    depthT m c (ix2 0 p) = (scene m c).depth ⟨p.val / 64, by omega⟩ ⟨p.val % 64, by omega⟩ := by
  unfold depthT V V0
  simp only [hostOps0, List.flatten_cons, List.flatten_nil, List.append_nil, List.cons_append, List.nil_append]
  after_results
  simp only [StableHlo.TRef.toBuf, StableHlo.TRef.ofBuf, StableHlo.TRef.of]
  have e : ∀ (f : S4096x64.Idx → EReal), shapeCast S1x262144 f shapeCasts_S4096x64_S1x262144 (ix2 0 p)
      = f (ix2 ⟨p.val / 64, by omega⟩ ⟨p.val % 64, by omega⟩) := by
    intro f
    pointwise
  exact e _

set_option maxHeartbeats 4000000 in
/-- The samples' lengths, two rays to a row. -/
theorem distsM_apply (k : Fin 2048) (l : Fin 128) :
    distsM m c (ix2 k l) = (scene m c).dists ⟨k.val * 2 + l.val / 64, by omega⟩ ⟨l.val % 64, by omega⟩ := by
  unfold distsM V V0
  simp only [hostOps0, List.flatten_cons, List.flatten_nil, List.append_nil, List.cons_append, List.nil_append]
  after_results
  simp only [StableHlo.TRef.toBuf, StableHlo.TRef.ofBuf, StableHlo.TRef.of]
  have e : ∀ (f : S4096x64.Idx → EReal), shapeCast S2048x128 f shapeCasts_S4096x64_S2048x128 (ix2 k l)
      = f (ix2 ⟨k.val * 2 + l.val / 64, by omega⟩ ⟨l.val % 64, by omega⟩) := by
    intro f
    pointwise
  exact e _

set_option maxHeartbeats 4000000 in
/-- The first layer's weights, transposed, then two zero columns. -/
theorem w1T_apply (n : Fin 256) (k : Fin 8) :
    w1T m c (ix2 n k) = if h : k.val < 6 then (scene m c).W1 ⟨k.val, h⟩ n else 0 := by
  unfold w1T V V0
  simp only [hostOps0, List.flatten_cons, List.flatten_nil, List.append_nil, List.cons_append, List.nil_append]
  after_results
  simp only [StableHlo.TRef.toBuf, StableHlo.TRef.ofBuf, StableHlo.TRef.of]
  repeat rw [cast_eq]
  rw [cols_apply _ 0 (fun _ => rfl)]
  pointwise
  rfl

set_option maxHeartbeats 4000000 in
/-- The second layer's weights, transposed. -/
theorem w2T_apply (n k : Fin 256) : w2T m c (ix2 n k) = (scene m c).W2 k n := by
  unfold w2T V V0
  simp only [hostOps0, List.flatten_cons, List.flatten_nil, List.append_nil, List.cons_append, List.nil_append]
  after_results
  simp only [StableHlo.TRef.toBuf, StableHlo.TRef.ofBuf, StableHlo.TRef.of]
  repeat rw [cast_eq]
  pointwise
  rfl

set_option maxHeartbeats 4000000 in
/-- The density's weights, the texture's three rows of weights, then zeros. -/
theorem wcat_apply (o : Fin 8) (k : Fin 256) :
    wcat m c (ix2 o k) = if o.val = 0 then (scene m c).Ws k
      else if h : o.val < 4 then (scene m c).Wt k ⟨o.val - 1, by omega⟩ else 0 := by
  unfold wcat V V0
  simp only [hostOps0, List.flatten_cons, List.flatten_nil, List.append_nil, List.cons_append, List.nil_append]
  after_results
  simp only [StableHlo.TRef.toBuf, StableHlo.TRef.ofBuf, StableHlo.TRef.of]
  repeat rw [cast_eq]
  rw [rows_apply _ 1 (fun _ => rfl), row_apply _ 0 (fun _ => rfl)]
  have e : ∀ (f : S256x1.Idx → EReal), shapeCast S256 f shapeCasts_S256x1_S256 (ix1 k) = f (ix2 k 0) := by
    intro f
    pointwise
  by_cases h0 : o.val = 0
  · rw [dif_neg (by omega), if_pos h0.symm, if_pos h0]
    exact e _
  · rw [if_neg h0]
    by_cases h4 : o.val < 4
    · rw [dif_pos ⟨by omega, by omega⟩, dif_pos h4]
      pointwise
      rfl
    · rw [dif_neg (by omega), dif_neg h4, if_neg (by omega)]
      pointwise

set_option maxHeartbeats 4000000 in
/-- One where the row's sample is on the column's ray and in front of the column's sample, else zero. -/
theorem t2_apply (k l : Fin 128) :
    t2 m c (ix2 k l) = if k.val / 64 = l.val / 64 ∧ k.val % 64 < l.val % 64 then 1 else 0 := by
  unfold t2 V V0
  simp only [hostOps0, List.flatten_cons, List.flatten_nil, List.append_nil, List.cons_append, List.nil_append]
  after_results
  simp only [StableHlo.TRef.toBuf, StableHlo.TRef.ofBuf, StableHlo.TRef.of, cast_eq]
  pointwise
  exact Render.before_word (by omega) (by omega) (by omega) (by omega)

set_option maxHeartbeats 4000000 in
/-- One where the sample is on the ray, else zero. -/
theorem seg_apply (p : Fin 8192) (r : Fin 128) : seg m c (ix2 p r) = if p.val / 64 = r.val then 1 else 0 := by
  unfold seg V V0
  simp only [hostOps0, List.flatten_cons, List.flatten_nil, List.append_nil, List.cons_append, List.nil_append]
  after_results
  simp only [StableHlo.TRef.toBuf, StableHlo.TRef.ofBuf, StableHlo.TRef.of, cast_eq]
  pointwise
  exact Render.ray_word p.isLt r.isLt

end Cert.KernelIdeal.Hand

end
-- ==== Proof.Block.lean ====
/-
  ONE POINT OF THE GRID. Given that the input blocks of a point hold the scene of its 128 rays, what the kernel's body
  computes from them is, at every index, the plain function of `Model.lean`. The two halves the kernel splits a number into
  are the number and zero, because the numbers are finite.
-/
module

public import Idealize.ShloMosaic.Lib.Pointwise
public import proofs.«01_k».proof.Proof.Model
public import proofs.«01_k».proof.Proof.Gen.KernelIdeal.Skeleton

@[expose] public section

set_option maxRecDepth 16384

noncomputable section

namespace Cert.KernelIdeal.Hand

open Idealize.ShloMosaic Cert.KernelIdeal Cert.KernelIdeal.Gen

/-- The ray of a lane of point `t`. -/
def rayOf (t : Fin 32) (l : Fin 8192) : Fin 4096 := ⟨t.val * 128 + l.val / 64, by omega⟩

/-- The sample of a lane. -/
def smpOf (l : Fin 8192) : Fin 64 := ⟨l.val % 64, by omega⟩

/-- The ray of an element of a tile with two rays to a row. -/
def rayOf2 (t : Fin 32) (k : Fin 64) (l : Fin 128) : Fin 4096 := ⟨t.val * 128 + k.val * 2 + l.val / 64, by omega⟩

/-- The sample of an element of a tile with two rays to a row. -/
def smpOf2 (l : Fin 128) : Fin 64 := ⟨l.val % 64, by omega⟩

/-- A ray of point `t`. -/
def rowOf (t : Fin 32) (r : Fin 128) : Fin 4096 := ⟨t.val * 128 + r.val, by omega⟩

/-- What the nine input blocks of point `t` hold. -/
structure Blocks (S : Render.Scene) (t : Fin 32) (b0 : FVec Ideal S8x8192 .f32) (b1 : FVec Ideal S1x8192 .f32)
    (b2 : FVec Ideal S64x128 .f32) (b3 : FVec Ideal S128x64 .f32) (b4 : FVec Ideal S256x8 .bf16) (b5 : FVec Ideal S256x256 .bf16)
    (b6 : FVec Ideal S8x256 .bf16) (b7 : FVec Ideal S128x128 .bf16) (b8 : FVec Ideal S8192x128 .bf16) : Prop where
  rays : ∀ j l, b0 (ix2 j l) = if h : j.val < 3 then S.start (rayOf t l) ⟨j.val, h⟩
    else if h : j.val < 6 then S.dir (rayOf t l) ⟨j.val - 3, by omega⟩ else 0
  depthRow : ∀ l, b1 (ix2 0 l) = S.depth (rayOf t l) (smpOf l)
  dists : ∀ k l, b2 (ix2 k l) = S.dists (rayOf2 t k l) (smpOf2 l)
  depth : ∀ r s, b3 (ix2 r s) = S.depth (rowOf t r) s
  w1 : ∀ n k, b4 (ix2 n k) = if h : k.val < 6 then S.W1 ⟨k.val, h⟩ n else 0
  w2 : ∀ n k, b5 (ix2 n k) = S.W2 k n
  w34 : ∀ o k, b6 (ix2 o k) = if o.val = 0 then S.Ws k else if h : o.val < 4 then S.Wt k ⟨o.val - 1, by omega⟩ else 0
  front : ∀ k l, b7 (ix2 k l) = if k.val / 64 = l.val / 64 ∧ k.val % 64 < l.val % 64 then (1 : EReal) else 0
  seg : ∀ p r, b8 (ix2 p r) = if p.val / 64 = r.val then (1 : EReal) else 0

variable {S : Render.Scene} {t : Fin 32} {b0 : FVec Ideal S8x8192 .f32} {b1 : FVec Ideal S1x8192 .f32}
    {b2 : FVec Ideal S64x128 .f32} {b3 : FVec Ideal S128x64 .f32} {b4 : FVec Ideal S256x8 .bf16} {b5 : FVec Ideal S256x256 .bf16}
    {b6 : FVec Ideal S8x256 .bf16} {b7 : FVec Ideal S128x128 .bf16} {b8 : FVec Ideal S8192x128 .bf16}
    (B : Blocks S t b0 b1 b2 b3 b4 b5 b6 b7 b8)

include B

/-- The padded sum over eight rows is the sum over the six features. -/
theorem feat_sum (l : Fin 8192) (n : Fin 256) :
    ((∑ x : Fin 3, b4 (ix2 n ⟨x.val, by omega⟩) * (b0 (ix2 ⟨x.val, by omega⟩ l) + b0 (ix2 ⟨3 + x.val, by omega⟩ l) * b1 (ix2 0 l)))
      + ∑ x : Fin 5, b4 (ix2 n ⟨3 + x.val, by omega⟩) * b0 (ix2 ⟨3 + x.val, by omega⟩ l) : EReal)
      = ∑ k : Fin 6, Render.feat S (rayOf t l) (smpOf l) k * S.W1 k n := by
  simp only [B.rays, B.depthRow, B.w1, Fin.sum_univ_succ, Fin.sum_univ_zero, Render.feat]
  simp [mul_comm, add_assoc]

/-- The last matrix product, at an index: the two output layers over the second hidden layer. -/
theorem pay3_apply (o : Fin 8) (l : Fin 8192) :
    (k0_pay3 (F := Ideal) b0 b1 b4 b5 b6 (ix2 o l) : EReal) = ∑ k : Fin 256, b6 (ix2 o k) * Render.hid2 S (rayOf t l) (smpOf l) k := by
  pointwise [k0_pay3, k0_pay2]
  refine Finset.sum_congr rfl fun k _ => congrArg _ ?_
  unfold Render.hid2
  refine congrArg (max · 0) (Finset.sum_congr rfl fun n _ => ?_)
  rw [B.w2, mul_comm]
  refine congrArg (· * _) ?_
  unfold Render.hid1
  exact congrArg (max · 0) (feat_sum B l n)

/-- The density of every sample of a block. -/
theorem sigma_row (l : Fin 8192) :
    (k0_pay3 (F := Ideal) b0 b1 b4 b5 b6 (ix2 0 l) : EReal) = Render.sigma S (rayOf t l) (smpOf l) := by
  rw [pay3_apply B]
  refine Finset.sum_congr rfl fun k _ => ?_
  rw [B.w34, if_pos (show (0 : Fin 8).val = 0 from rfl), mul_comm]

/-- The texture of every sample of a block. -/
theorem tex_row (c : Fin 3) (l : Fin 8192) :
    (k0_pay4 (F := Ideal) b0 b1 b4 b5 b6 (ix2 c l) : EReal) = Render.tex S (rayOf t l) (smpOf l) c := by
  have e : (k0_pay4 (F := Ideal) b0 b1 b4 b5 b6 (ix2 c l) : EReal) = Ideal.logistic (k0_pay3 (F := Ideal) b0 b1 b4 b5 b6 (ix2 ⟨1 + c.val, by omega⟩ l)) := by
    unfold k0_pay4
    generalize k0_pay3 (F := Ideal) b0 b1 b4 b5 b6 = y
    pointwise
  rw [e, pay3_apply B]
  refine congrArg Ideal.logistic (Finset.sum_congr rfl fun k _ => ?_)
  rw [B.w34, if_neg (by dsimp only; omega), dif_pos (by dsimp only; omega), mul_comm]
  refine congrArg (_ * S.Wt k ·) (Fin.ext ?_)
  dsimp only
  omega

/-- The free energy of every sample of a block, two rays to a row. -/
theorem energy_tile (k : Fin 64) (l : Fin 128) :
    (k0_pay5 (F := Ideal) b0 b1 b4 b5 b6 b2 (ix2 k l) : EReal) = Render.energy S (rayOf2 t k l) (smpOf2 l) := by
  have e : (k0_pay5 (F := Ideal) b0 b1 b4 b5 b6 b2 (ix2 k l) : EReal)
      = max (k0_pay3 (F := Ideal) b0 b1 b4 b5 b6 (ix2 0 ⟨k.val * 128 + l.val, by omega⟩)) 0 * b2 (ix2 k l) * Ideal.ofBits .f32 0x40E00000#32 := by
    unfold k0_pay5
    generalize k0_pay3 (F := Ideal) b0 b1 b4 b5 b6 = y
    pointwise
  have hr : rayOf t ⟨k.val * 128 + l.val, by omega⟩ = rayOf2 t k l := Fin.ext (by show _ + (k.val * 128 + l.val) / 64 = _ + _ + _; omega)
  have hs : smpOf ⟨k.val * 128 + l.val, by omega⟩ = smpOf2 l := Fin.ext (by show (k.val * 128 + l.val) % 64 = l.val % 64; omega)
  rw [e, sigma_row B, B.dists, hr, hs]
  rfl

/-- The energies rounded to the narrow format are the energies, at the extended reals. -/
theorem energy_hi (k : Fin 64) (l : Fin 128) :
    (k0_pay6 (F := Ideal) b0 b1 b4 b5 b6 b2 (ix2 k l) : EReal) = Render.energy S (rayOf2 t k l) (smpOf2 l) := energy_tile B k l

/-- The energies rounded and widened again are the energies. -/
theorem energy_back (k : Fin 64) (l : Fin 128) :
    (k0_pay7 (F := Ideal) b0 b1 b4 b5 b6 b2 (ix2 k l) : EReal) = Render.energy S (rayOf2 t k l) (smpOf2 l) := energy_tile B k l

/-- The product with the indicator of the samples in front is the energy in front. -/
theorem front_sum (k : Fin 64) (l : Fin 128) :
    (∑ x : Fin 128, Render.energy S (rayOf2 t k x) (smpOf2 x) * b7 (ix2 x l) : EReal)
      = Render.before S (rayOf2 t k l) (smpOf2 l) := by
  have h : ∀ x : Fin 128, (Render.energy S (rayOf2 t k x) (smpOf2 x) * b7 (ix2 x l) : EReal)
      = if x.val / 64 = l.val / 64 then (if x.val % 64 < l.val % 64 then Render.energy S (rayOf2 t k x) (smpOf2 x) else 0) else 0 := by
    intro x
    rw [B.front, mul_ite, mul_one, mul_zero, ite_and]
  rw [Finset.sum_congr rfl fun x _ => h x]
  refine (Render.sum_segment 2 64 128 rfl ⟨l.val / 64, by omega⟩
    (fun x => if x.val % 64 < l.val % 64 then Render.energy S (rayOf2 t k x) (smpOf2 x) else 0) (fun j => by dsimp only; omega)).trans ?_
  refine Finset.sum_congr rfl fun j _ => ?_
  have hs : smpOf2 ⟨l.val / 64 * 64 + j.val, by omega⟩ = j := Fin.ext (by show (l.val / 64 * 64 + j.val) % 64 = j.val; omega)
  have hr : rayOf2 t k ⟨l.val / 64 * 64 + j.val, by omega⟩ = rayOf2 t k l :=
    Fin.ext (by show _ + _ + (l.val / 64 * 64 + j.val) / 64 = _ + _ + l.val / 64; omega)
  have hm : (l.val / 64 * 64 + j.val) % 64 = j.val := by omega
  dsimp only
  rw [hm, hs, hr]
  rfl

/-- The first output block: the probabilities. -/
theorem prob_row (hS : S.Finite) (l : Fin 8192) :
    (k0_pay8 (F := Ideal) (k0_pay5 b0 b1 b4 b5 b6 b2) (k0_pay6 b0 b1 b4 b5 b6 b2) (k0_pay7 b0 b1 b4 b5 b6 b2) b7 (ix2 0 l) : EReal)
      = Render.prob S (rayOf t l) (smpOf l) := by
  have e : ∀ (v37 : FVec Ideal S64x128 .f32) (v38 : FVec Ideal S64x128 .bf16) (v39 : FVec Ideal S64x128 .f32),
      (k0_pay8 (F := Ideal) v37 v38 v39 b7 (ix2 0 l) : EReal)
        = (1 - Ideal.exp (0 - v37 (ix2 ⟨l.val / 128, by omega⟩ ⟨l.val % 128, by omega⟩)))
          * Ideal.exp (0 - ((∑ x : Fin 128, v38 (ix2 ⟨l.val / 128, by omega⟩ x) * b7 (ix2 x ⟨l.val % 128, by omega⟩))
            + ∑ x : Fin 128, (v37 (ix2 ⟨l.val / 128, by omega⟩ x) - v39 (ix2 ⟨l.val / 128, by omega⟩ x)) * b7 (ix2 x ⟨l.val % 128, by omega⟩))) := by
    intro v37 v38 v39
    pointwise [k0_pay8]
  rw [e]
  simp only [energy_tile B, energy_hi B, energy_back B, (Render.isReal_energy hS _ _).sub_self, zero_mul, Finset.sum_const_zero,
    add_zero, zero_sub, front_sum B]
  have hr : rayOf2 t ⟨l.val / 128, by omega⟩ ⟨l.val % 128, by omega⟩ = rayOf t l :=
    Fin.ext (by show _ + l.val / 128 * 2 + l.val % 128 / 64 = _ + l.val / 64; omega)
  have hs : smpOf2 ⟨l.val % 128, by omega⟩ = smpOf l := Fin.ext (by show l.val % 128 % 64 = l.val % 64; omega)
  rw [hr, hs]
  rfl

omit B in
/-- The rows summed over the rays: weighted depth, probability, weighted colour, and three rows of zeros. -/
def rows (v3 : FVec Ideal S1x8192 .f32) (v29 : FVec Ideal S3x8192 .f32) (p : FVec Ideal S1x8192 .f32) : FVec Ideal S8x8192 .f32 :=
  concatenate S8x8192 0 [⟨S1x8192, mulf v3 p⟩, ⟨S1x8192, p⟩, ⟨S3x8192, mulf v29 (broadcastTo S3x8192 p broadcasts_S1x8192_S3x8192)⟩,
    ⟨S3x8192, broadcast S3x8192 (Scalar.ofBits .f32 0x00000000#32)⟩] concatenates_S1x8192_S1x8192_S3x8192_S3x8192_S8x8192_d0

omit B in
/-- The two halves of a matrix, each times the indicator of the samples of a ray. -/
def bySegment (v : FVec Ideal S8x8192 .f32) (w : FVec Ideal S8192x128 .bf16) : FVec Ideal S8x128 .f32 :=
  addf (matmul dot_S8x8192_S8192x128_S8x128_1_0_0_1_n_n none (truncf .bf16 v bitsLt_bf16_f32)
      (shapeCast S8192x128 w shapeCasts_S8192x128_S8192x128) (constant S8x128 .f32 0x00000000#32))
    (matmul dot_S8x8192_S8192x128_S8x128_1_0_0_1_n_n none
      (truncf .bf16 (subf v (extf .f32 (truncf .bf16 v bitsLt_bf16_f32) bitsLt_bf16_f32)) bitsLt_bf16_f32)
      (shapeCast S8192x128 w shapeCasts_S8192x128_S8192x128) (constant S8x128 .f32 0x00000000#32))

/-- The product with the indicator of a ray's samples sums over them, for a row of finite numbers. -/
theorem bySegment_apply (v : FVec Ideal S8x8192 .f32) (q : Fin 8) (r : Fin 128) (f : Fin 4096 → Fin 64 → EReal)
    (hf : ∀ a s, Render.IsReal (f a s)) (hv : ∀ p, v (ix2 q p) = f (rayOf t p) (smpOf p)) :
    (bySegment v b8 (ix2 q r) : EReal) = ∑ s : Fin 64, f (rowOf t r) s := by
  have e : (bySegment v b8 (ix2 q r) : EReal)
      = (∑ p : Fin 8192, v (ix2 q p) * b8 (ix2 p r)) + ∑ p : Fin 8192, (v (ix2 q p) - v (ix2 q p)) * b8 (ix2 p r) := by
    pointwise [bySegment]
  rw [e]
  simp only [hv, (hf _ _).sub_self, zero_mul, Finset.sum_const_zero, add_zero, B.seg, mul_ite, mul_one, mul_zero, ite_self]
  refine (Render.sum_segment 128 64 8192 rfl r (fun p => f (rayOf t p) (smpOf p)) (fun j => by omega)).trans ?_
  refine Finset.sum_congr rfl fun j _ => ?_
  have hr : rayOf t ⟨r.val * 64 + j.val, by omega⟩ = rowOf t r := Fin.ext (by show _ + (r.val * 64 + j.val) / 64 = _ + _; omega)
  have hs : smpOf ⟨r.val * 64 + j.val, by omega⟩ = j := Fin.ext (by show (r.val * 64 + j.val) % 64 = _; omega)
  rw [hr, hs]

/-- The second output block. -/
theorem sums_tile (hS : S.Finite) (q : Fin 8) (r : Fin 128) :
    (k0_pay9 (F := Ideal) (k0_pay2 b1) (k0_pay4 b0 b1 b4 b5 b6) (k0_pay5 b0 b1 b4 b5 b6 b2) (k0_pay6 b0 b1 b4 b5 b6 b2)
        (k0_pay7 b0 b1 b4 b5 b6 b2) b7 b8 (ix2 q r) : EReal)
      = if q.val = 0 then Render.meanDepth S (rowOf t r) else if q.val = 1 then Render.total S (rowOf t r)
        else if h : q.val < 5 then Render.color S (rowOf t r) ⟨q.val - 2, by omega⟩ else 0 := by
  have e0 : k0_pay9 (F := Ideal) (k0_pay2 b1) (k0_pay4 b0 b1 b4 b5 b6) (k0_pay5 b0 b1 b4 b5 b6 b2) (k0_pay6 b0 b1 b4 b5 b6 b2)
        (k0_pay7 b0 b1 b4 b5 b6 b2) b7 b8
      = bySegment (rows (k0_pay2 b1) (k0_pay4 b0 b1 b4 b5 b6) (k0_pay8 (k0_pay5 b0 b1 b4 b5 b6 b2) (k0_pay6 b0 b1 b4 b5 b6 b2)
        (k0_pay7 b0 b1 b4 b5 b6 b2) b7)) b8 := rfl
  have e2 : ∀ l, (k0_pay2 (F := Ideal) b1 (ix2 0 l) : EReal) = S.depth (rayOf t l) (smpOf l) := by
    intro l
    rw [← B.depthRow]
    pointwise [k0_pay2]
  have e8 := prob_row B hS
  have e4 := tex_row B
  rw [e0]
  generalize k0_pay8 (F := Ideal) (k0_pay5 b0 b1 b4 b5 b6 b2) (k0_pay6 b0 b1 b4 b5 b6 b2) (k0_pay7 b0 b1 b4 b5 b6 b2) b7 = p at e8 ⊢
  generalize k0_pay4 (F := Ideal) b0 b1 b4 b5 b6 = x at e4 ⊢
  generalize k0_pay2 (F := Ideal) b1 = y at e2 ⊢
  by_cases h0 : q.val = 0
  · obtain rfl : q = 0 := Fin.ext h0
    rw [if_pos h0]
    refine bySegment_apply B _ _ _ (fun a s => S.depth a s * Render.prob S a s)
      (fun a s => (hS.depth a s).mul (Render.isReal_prob hS a s)) fun l => ?_
    refine Eq.trans ?_ (congrArg₂ (· * ·) (e2 l) (e8 l))
    pointwise [rows]
  rw [if_neg h0]
  by_cases h1 : q.val = 1
  · obtain rfl : q = 1 := Fin.ext h1
    rw [if_pos h1]
    refine bySegment_apply B _ _ _ (fun a s => Render.prob S a s) (fun a s => Render.isReal_prob hS a s) fun l => ?_
    refine Eq.trans ?_ (e8 l)
    pointwise [rows]
  rw [if_neg h1]
  by_cases h5 : q.val < 5
  · rw [dif_pos h5]
    refine bySegment_apply B _ _ _ (fun a s => Render.tex S a s ⟨q.val - 2, by omega⟩ * Render.prob S a s)
      (fun a s => (Render.isReal_logistic _).mul (Render.isReal_prob hS a s)) fun l => ?_
    refine Eq.trans ?_ (congrArg₂ (· * ·) (e4 _ l) (e8 l))
    pointwise [rows]
    rw [dif_neg (by omega), dif_neg (by omega), dif_pos (by omega)]
    rfl
  · rw [dif_neg h5]
    refine (bySegment_apply B _ q r (fun _ _ => 0) (fun _ _ => Render.isReal_zero) fun l => ?_).trans Finset.sum_const_zero
    pointwise [rows]
    rw [dif_neg (by omega), dif_neg (by omega), dif_neg (by omega)]

/-- The third output block: the largest and the smallest depth. -/
theorem ends_tile (r : Fin 128) (q : Fin 8) :
    (k0_pay1 (F := Ideal) (k0_pay10 b3) (k0_pay11 b3) (ix2 r q) : EReal)
      = if q.val = 0 then Render.far S (rowOf t r) else if q.val = 1 then Render.near S (rowOf t r) else 0 := by
  have e : S.depth (rowOf t r) = fun s => b3 (ix2 r s) := (funext fun s => B.depth r s).symm
  unfold Render.far Render.near
  rw [e]
  pointwise [k0_pay1, k0_pay10, k0_pay11]
  by_cases h0 : q.val = 0
  · rw [dif_pos (by omega), if_pos h0]
    rfl
  · rw [dif_neg (by omega), if_neg h0]
    by_cases h1 : q.val = 1
    · rw [dif_pos (by omega), if_pos h1]
      rfl
    · rw [dif_neg (by omega), if_neg h1]

end Cert.KernelIdeal.Hand

end
-- ==== Proof.Windows.lean ====
/-
  THE KERNEL'S THREE ARRAYS AFTER THE REGION. The input blocks of every point hold the scene of its rays; every point writes
  its own blocks back; so each array ends holding the plain functions of `Model.lean`.
-/
module

public import Idealize.ShloMosaic.Lib.Pipeline.ValueKit
public import proofs.«01_k».proof.Proof.Gen.KernelIdeal.Frame
public import proofs.«01_k».proof.Proof.Entry
public import proofs.«01_k».proof.Proof.Block

@[expose] public section

set_option maxRecDepth 16384

noncomputable section

namespace Cert.KernelIdeal.Hand

open Idealize.ShloMosaic Idealize.ShloMosaic.TcCoe Cert.KernelIdeal Cert.KernelIdeal.Gen

/-- The windows' block indices at a point: the windows over rays move with it, the weights and indicators stay. -/
theorem idx : ∀ t : Fin cfg0.N, win0_0.index t = ![0, t.val] ∧ win0_1.index t = ![0, t.val] ∧ win0_2.index t = ![t.val, 0]
    ∧ win0_3.index t = ![t.val, 0] ∧ win0_4.index t = ![0, 0] ∧ win0_5.index t = ![0, 0] ∧ win0_6.index t = ![0, 0]
    ∧ win0_7.index t = ![0, 0] ∧ win0_8.index t = ![0, 0] ∧ win0_9.index t = ![0, t.val] ∧ win0_10.index t = ![0, t.val]
    ∧ win0_11.index t = ![t.val, 0] :=
  (by decide +kernel : ∀ t : Fin grid0.N, _)

variable (m : (ℓ : Loc nD τ sig) → Buf (Elt Ideal) ℓ) (c : Dev nD)

/-- A point of the grid as a number below 32. -/
def pt (t : Fin cfg0.N) : Fin 32 := ⟨t.val, lt_of_lt_of_eq t.isLt N_0⟩

/-- Window 0's block of any array at a point, index by index. -/
theorem blk0 (t : Fin cfg0.N) (f : S8x262144.Idx → EReal) (j : Fin 8) (l : Fin 8192) :
    ((cfg0.win 0).blk t).view.read (Elt Ideal) f (ix2 j l) = f (ix2 j ⟨(pt t).val * 8192 + l.val, by omega⟩) := by
  blk_ext [idx t, pt]

/-- What window 0 reads at a point. -/
theorem read0 (t : Fin cfg0.N) (j : Fin 8) (l : Fin 8192) :
    (iblk m c 0 t (ix2 j l) : EReal) = rayT m c (ix2 j ⟨(pt t).val * 8192 + l.val, by omega⟩) :=
  blk0 t (rayT m c) j l

/-- Window 1's block of any array at a point, index by index. -/
theorem blk1 (t : Fin cfg0.N) (f : S1x262144.Idx → EReal) (l : Fin 8192) :
    ((cfg0.win 1).blk t).view.read (Elt Ideal) f (ix2 0 l) = f (ix2 0 ⟨(pt t).val * 8192 + l.val, by omega⟩) := by
  blk_ext [idx t, pt]

/-- What window 1 reads at a point. -/
theorem read1 (t : Fin cfg0.N) (l : Fin 8192) :
    (iblk m c 1 t (ix2 0 l) : EReal) = depthT m c (ix2 0 ⟨(pt t).val * 8192 + l.val, by omega⟩) :=
  blk1 t (depthT m c) l

/-- Window 2's block of any array at a point, index by index. -/
theorem blk2 (t : Fin cfg0.N) (f : S2048x128.Idx → EReal) (k : Fin 64) (l : Fin 128) :
    ((cfg0.win 2).blk t).view.read (Elt Ideal) f (ix2 k l) = f (ix2 ⟨(pt t).val * 64 + k.val, by omega⟩ l) := by
  blk_ext [idx t, pt]

/-- What window 2 reads at a point. -/
theorem read2 (t : Fin cfg0.N) (k : Fin 64) (l : Fin 128) :
    (iblk m c 2 t (ix2 k l) : EReal) = distsM m c (ix2 ⟨(pt t).val * 64 + k.val, by omega⟩ l) :=
  blk2 t (distsM m c) k l

/-- Window 3's block of any array at a point, index by index. -/
theorem blk3 (t : Fin cfg0.N) (f : S4096x64.Idx → EReal) (r : Fin 128) (s : Fin 64) :
    ((cfg0.win 3).blk t).view.read (Elt Ideal) f (ix2 r s) = f (ix2 ⟨(pt t).val * 128 + r.val, by omega⟩ s) := by
  blk_ext [idx t, pt]

/-- What window 3 reads at a point. -/
theorem read3 (t : Fin cfg0.N) (r : Fin 128) (s : Fin 64) :
    (iblk m c 3 t (ix2 r s) : EReal) = depthM m c (ix2 ⟨(pt t).val * 128 + r.val, by omega⟩ s) :=
  blk3 t (depthM m c) r s

/-- Window 4's block of any array at a point, index by index. -/
theorem blk4 (t : Fin cfg0.N) (f : S256x8.Idx → EReal) (n : Fin 256) (k : Fin 8) :
    ((cfg0.win 4).blk t).view.read (Elt Ideal) f (ix2 n k) = f (ix2 n k) := by
  blk_ext [idx t, pt]

/-- What window 4 reads at a point. -/
theorem read4 (t : Fin cfg0.N) (n : Fin 256) (k : Fin 8) :
    (iblk m c 4 t (ix2 n k) : EReal) = w1T m c (ix2 n k) :=
  blk4 t (w1T m c) n k

/-- Window 5's block of any array at a point, index by index. -/
theorem blk5 (t : Fin cfg0.N) (f : S256x256.Idx → EReal) (n k : Fin 256) :
    ((cfg0.win 5).blk t).view.read (Elt Ideal) f (ix2 n k) = f (ix2 n k) := by
  blk_ext [idx t, pt]

/-- What window 5 reads at a point. -/
theorem read5 (t : Fin cfg0.N) (n k : Fin 256) :
    (iblk m c 5 t (ix2 n k) : EReal) = w2T m c (ix2 n k) :=
  blk5 t (w2T m c) n k

/-- Window 6's block of any array at a point, index by index. -/
theorem blk6 (t : Fin cfg0.N) (f : S8x256.Idx → EReal) (o : Fin 8) (k : Fin 256) :
    ((cfg0.win 6).blk t).view.read (Elt Ideal) f (ix2 o k) = f (ix2 o k) := by
  blk_ext [idx t, pt]

/-- What window 6 reads at a point. -/
theorem read6 (t : Fin cfg0.N) (o : Fin 8) (k : Fin 256) :
    (iblk m c 6 t (ix2 o k) : EReal) = wcat m c (ix2 o k) :=
  blk6 t (wcat m c) o k

/-- Window 7's block of any array at a point, index by index. -/
theorem blk7 (t : Fin cfg0.N) (f : S128x128.Idx → EReal) (k l : Fin 128) :
    ((cfg0.win 7).blk t).view.read (Elt Ideal) f (ix2 k l) = f (ix2 k l) := by
  blk_ext [idx t, pt]

/-- What window 7 reads at a point. -/
theorem read7 (t : Fin cfg0.N) (k l : Fin 128) :
    (iblk m c 7 t (ix2 k l) : EReal) = t2 m c (ix2 k l) :=
  blk7 t (t2 m c) k l

/-- Window 8's block of any array at a point, index by index. -/
theorem blk8 (t : Fin cfg0.N) (f : S8192x128.Idx → EReal) (p : Fin 8192) (r : Fin 128) :
    ((cfg0.win 8).blk t).view.read (Elt Ideal) f (ix2 p r) = f (ix2 p r) := by
  blk_ext [idx t, pt]

/-- What window 8 reads at a point. -/
theorem read8 (t : Fin cfg0.N) (p : Fin 8192) (r : Fin 128) :
    (iblk m c 8 t (ix2 p r) : EReal) = seg m c (ix2 p r) :=
  blk8 t (seg m c) p r

/-- The blocks of a point hold the scene of its rays. -/
theorem blocks (t : Fin cfg0.N) : Blocks (scene m c) (pt t) (iblk m c 0 t) (iblk m c 1 t) (iblk m c 2 t) (iblk m c 3 t)
    (iblk m c 4 t) (iblk m c 5 t) (iblk m c 6 t) (iblk m c 7 t) (iblk m c 8 t) where
  rays j l := by
    refine (read0 m c t j l).trans ((rayT_apply m c j _).trans ?_)
    have hr : (⟨((pt t).val * 8192 + l.val) / 64, by omega⟩ : Fin 4096) = rayOf (pt t) l :=
      Fin.ext (by show ((pt t).val * 8192 + l.val) / 64 = (pt t).val * 128 + l.val / 64; omega)
    dsimp only
    rw [hr]
  depthRow l := by
    refine (read1 m c t l).trans ((depthT_apply m c _).trans ?_)
    have hr : (⟨((pt t).val * 8192 + l.val) / 64, by omega⟩ : Fin 4096) = rayOf (pt t) l :=
      Fin.ext (by show ((pt t).val * 8192 + l.val) / 64 = (pt t).val * 128 + l.val / 64; omega)
    have hs : (⟨((pt t).val * 8192 + l.val) % 64, by omega⟩ : Fin 64) = smpOf l :=
      Fin.ext (by show ((pt t).val * 8192 + l.val) % 64 = l.val % 64; omega)
    dsimp only
    rw [hr, hs]
  dists k l := by
    refine (read2 m c t k l).trans ((distsM_apply m c _ _).trans ?_)
    have hr : (⟨((pt t).val * 64 + k.val) * 2 + l.val / 64, by omega⟩ : Fin 4096) = rayOf2 (pt t) k l :=
      Fin.ext (by show ((pt t).val * 64 + k.val) * 2 + l.val / 64 = (pt t).val * 128 + k.val * 2 + l.val / 64; omega)
    dsimp only
    rw [hr]
    rfl
  depth r s := (read3 m c t r s).trans (depthM_apply m c _ _)
  w1 n k := (read4 m c t n k).trans (w1T_apply m c n k)
  w2 n k := (read5 m c t n k).trans (w2T_apply m c n k)
  w34 o k := (read6 m c t o k).trans (wcat_apply m c o k)
  front k l := (read7 m c t k l).trans (t2_apply m c k l)
  seg p r := (read8 m c t p r).trans (seg_apply m c p r)

end Cert.KernelIdeal.Hand

end
-- ==== Proof.Final.lean ====
/-
  THE KERNEL'S THREE ARRAYS AFTER THE REGION. Every point writes its own blocks back, and the blocks tile the arrays; so each
  array ends holding the plain functions of `Model.lean`.
-/
module

public import proofs.«01_k».proof.Proof.Windows

@[expose] public section

set_option maxRecDepth 16384

noncomputable section

namespace Cert.KernelIdeal.Hand

open Idealize.ShloMosaic Idealize.ShloMosaic.TcCoe Cert.KernelIdeal Cert.KernelIdeal.Gen

variable (m : (ℓ : Loc nD τ sig) → Buf (Elt Ideal) ℓ) (c : Dev nD)

/-- The probabilities, by flat sample. -/
def probs (S : Render.Scene) : S1x262144.Idx → EReal := fun i =>
  Render.prob S ⟨(i 1).val / 64, by have := (i 1).isLt; change _ < 262144 at this; omega⟩ ⟨(i 1).val % 64, by omega⟩

/-- The sums over rays, by row: expected depth, probability of ending, colour, and zeros. -/
def sums (S : Render.Scene) : S8x4096.Idx → EReal := fun i =>
  if (i 0).val = 0 then Render.meanDepth S (i 1) else if (i 0).val = 1 then Render.total S (i 1)
    else if h : (i 0).val < 5 then Render.color S (i 1) ⟨(i 0).val - 2, by omega⟩ else 0

/-- The largest and the smallest depth of every ray, by column, and zeros. -/
def ends (S : Render.Scene) : S4096x8.Idx → EReal := fun i =>
  if (i 1).val = 0 then Render.far S (i 0) else if (i 1).val = 1 then Render.near S (i 0) else 0

/-- Where a point's block of the probabilities lies. -/
theorem emb9 (t : Fin cfg0.N) (l : Fin 8192) :
    ((cfg0.win 9).blk t).view.emb (ix2 0 l) = (ix2 0 ⟨(pt t).val * 8192 + l.val, by omega⟩ : S1x262144.Idx) := by
  blk_ext [idx t, pt]

/-- Where a point's block of the sums lies. -/
theorem emb10 (t : Fin cfg0.N) (q : Fin 8) (r : Fin 128) :
    ((cfg0.win 10).blk t).view.emb (ix2 q r) = (ix2 q (rowOf (pt t) r) : S8x4096.Idx) := by
  blk_ext [idx t, pt, rowOf]

/-- Where a point's block of the largest and smallest depths lies. -/
theorem emb11 (t : Fin cfg0.N) (r : Fin 128) (q : Fin 8) :
    ((cfg0.win 11).blk t).view.emb (ix2 r q) = (ix2 (rowOf (pt t) r) q : S4096x8.Idx) := by
  blk_ext [idx t, pt, rowOf]

/-- A pair of coordinates at every index of a two-axis shape. -/
theorem exists_ix2 {a b : Nat} (y : (⟨2, ![a, b]⟩ : Shape).Idx) : ∃ (p : Fin a) (q : Fin b), y = ix2 p q :=
  ⟨y 0, y 1, by pointwise⟩

/-- Loading whole blocks leaves them as they are: the first term the stores share. -/
theorem pay12_eq (x0 : FVec Ideal S8x8192 .f32) (x1 : FVec Ideal S1x8192 .f32) (x2 : FVec Ideal S64x128 .f32) (x3 : FVec Ideal S128x64 .f32)
    (x4 : FVec Ideal S256x8 .bf16) (x5 : FVec Ideal S256x256 .bf16) (x6 : FVec Ideal S8x256 .bf16) (x7 : FVec Ideal S128x128 .bf16)
    (x8 : FVec Ideal S8192x128 .bf16) : k0_pay12 (F := Ideal) x0 x1 x2 x3 x4 x5 x6 x7 x8 = k0_pay5 (F := Ideal) x0 x1 x4 x5 x6 x2 := by
  unfold k0_pay12
  frame_out

/-- Loading whole blocks leaves them as they are: the second term the stores share. -/
theorem pay13_eq (x0 : FVec Ideal S8x8192 .f32) (x1 : FVec Ideal S1x8192 .f32) (x2 : FVec Ideal S64x128 .f32) (x3 : FVec Ideal S128x64 .f32)
    (x4 : FVec Ideal S256x8 .bf16) (x5 : FVec Ideal S256x256 .bf16) (x6 : FVec Ideal S8x256 .bf16) (x7 : FVec Ideal S128x128 .bf16)
    (x8 : FVec Ideal S8192x128 .bf16) : k0_pay13 (F := Ideal) x0 x1 x2 x3 x4 x5 x6 x7 x8 = k0_pay6 (F := Ideal) x0 x1 x4 x5 x6 x2 := by
  unfold k0_pay13
  frame_out

/-- Loading whole blocks leaves them as they are: the third term the stores share. -/
theorem pay14_eq (x0 : FVec Ideal S8x8192 .f32) (x1 : FVec Ideal S1x8192 .f32) (x2 : FVec Ideal S64x128 .f32) (x3 : FVec Ideal S128x64 .f32)
    (x4 : FVec Ideal S256x8 .bf16) (x5 : FVec Ideal S256x256 .bf16) (x6 : FVec Ideal S8x256 .bf16) (x7 : FVec Ideal S128x128 .bf16)
    (x8 : FVec Ideal S8192x128 .bf16) : k0_pay14 (F := Ideal) x0 x1 x2 x3 x4 x5 x6 x7 x8 = k0_pay7 (F := Ideal) x0 x1 x4 x5 x6 x2 := by
  unfold k0_pay14
  frame_out

variable {S : Render.Scene} {b0 : FVec Ideal S8x8192 .f32} {b1 : FVec Ideal S1x8192 .f32}
    {b2 : FVec Ideal S64x128 .f32} {b3 : FVec Ideal S128x64 .f32} {b4 : FVec Ideal S256x8 .bf16} {b5 : FVec Ideal S256x256 .bf16}
    {b6 : FVec Ideal S8x256 .bf16} {b7 : FVec Ideal S128x128 .bf16} {b8 : FVec Ideal S8192x128 .bf16}

/-- What a point writes to its block of the probabilities. -/
theorem point9 (t : Fin cfg0.N) (B : Blocks S (pt t) b0 b1 b2 b3 b4 b5 b6 b7 b8) (hS : S.Finite) (y : S1x8192.Idx) :
    (k0_pay8 (F := Ideal) (k0_pay12 (F := Ideal) b0 b1 b2 b3 b4 b5 b6 b7 b8) (k0_pay13 (F := Ideal) b0 b1 b2 b3 b4 b5 b6 b7 b8) (k0_pay14 (F := Ideal) b0 b1 b2 b3 b4 b5 b6 b7 b8) b7 y : EReal)
      = probs S (((cfg0.win 9).blk t).view.emb y) := by
  obtain ⟨a, l, rfl⟩ := exists_ix2 y
  obtain rfl : a = 0 := Subsingleton.elim _ _
  rw [pay12_eq, pay13_eq, pay14_eq]
  refine ((prob_row B hS l).trans ?_).trans (congrArg (probs S) (emb9 t l)).symm
  have hr : rayOf (pt t) l = ⟨((pt t).val * 8192 + l.val) / 64, by omega⟩ :=
    Fin.ext (by show (pt t).val * 128 + l.val / 64 = ((pt t).val * 8192 + l.val) / 64; omega)
  have hs : smpOf l = ⟨((pt t).val * 8192 + l.val) % 64, by omega⟩ :=
    Fin.ext (by show l.val % 64 = ((pt t).val * 8192 + l.val) % 64; omega)
  rw [hr, hs]
  rfl

/-- What a point writes to its block of the sums. -/
theorem point10 (t : Fin cfg0.N) (B : Blocks S (pt t) b0 b1 b2 b3 b4 b5 b6 b7 b8) (hS : S.Finite) (y : S8x128.Idx) :
    (k0_pay9 (F := Ideal) (k0_pay2 (F := Ideal) b1) (k0_pay4 (F := Ideal) b0 b1 b4 b5 b6) (k0_pay12 (F := Ideal) b0 b1 b2 b3 b4 b5 b6 b7 b8) (k0_pay13 (F := Ideal) b0 b1 b2 b3 b4 b5 b6 b7 b8)
        (k0_pay14 (F := Ideal) b0 b1 b2 b3 b4 b5 b6 b7 b8) b7 b8 y : EReal)
      = sums S (((cfg0.win 10).blk t).view.emb y) := by
  obtain ⟨q, r, rfl⟩ := exists_ix2 y
  rw [pay12_eq, pay13_eq, pay14_eq]
  exact ((sums_tile B hS q r).trans rfl).trans (congrArg (sums S) (emb10 t q r)).symm

/-- What a point writes to its block of the largest and smallest depths. -/
theorem point11 (t : Fin cfg0.N) (B : Blocks S (pt t) b0 b1 b2 b3 b4 b5 b6 b7 b8) (y : S128x8.Idx) :
    (k0_pay1 (F := Ideal) (k0_pay10 (F := Ideal) b3) (k0_pay11 (F := Ideal) b3) y : EReal) = ends S (((cfg0.win 11).blk t).view.emb y) := by
  obtain ⟨r, q, rfl⟩ := exists_ix2 y
  exact ((ends_tile B r q).trans rfl).trans (congrArg (ends S) (emb11 t r q)).symm

/-- The probabilities' array after the region. -/
theorem final9 (hS : (scene m c).Finite) : (dats m 0 c).arrAt 9 (cfgs 0).N = probs (scene m c) := by
  refine (dats m 0 c).arrAt_eq_of_covers 9 _ (by decide +kernel) fun t _ y => ?_
  blk_simp
  rw [after0_9]
  frame_out
  exact point9 t (blocks m c t) hS y

/-- The sums' array after the region. -/
theorem final10 (hS : (scene m c).Finite) : (dats m 0 c).arrAt 10 (cfgs 0).N = sums (scene m c) := by
  refine (dats m 0 c).arrAt_eq_of_covers 10 _ (by decide +kernel) fun t _ y => ?_
  blk_simp
  rw [after0_10]
  frame_out
  exact point10 t (blocks m c t) hS y

/-- The array of the largest and smallest depths after the region. -/
theorem final11 : (dats m 0 c).arrAt 11 (cfgs 0).N = ends (scene m c) := by
  refine (dats m 0 c).arrAt_eq_of_covers 11 _ (by decide +kernel) fun t _ y => ?_
  blk_simp
  rw [after0_11]
  frame_out
  exact point11 t (blocks m c t) y

end Cert.KernelIdeal.Hand

end
-- ==== Proof.Tail.lean ====
/-
  THE KERNEL'S SIX RESULTS. After the region the host takes rows and columns out of the region's three arrays and lays them
  out by ray; the third result is one less the probability of ending on the ray.
-/
module

public import proofs.«01_k».proof.Proof.Final

@[expose] public section

set_option maxRecDepth 16384

noncomputable section

namespace Cert.KernelIdeal.Hand

open Idealize.ShloMosaic Idealize.ShloMosaic.TcCoe Cert.KernelIdeal Cert.KernelIdeal.Gen

/-! ## What the host makes of any three arrays -/

section

variable (A : Valuation τ sig (Elt Ideal))

/-- The first result is the region's first array, by ray and sample. -/
theorem out0_apply (f : S1x262144.Idx → EReal) (h : A (Proc.devRef .tc main_call0_v49_0) = f) (r : Fin 4096) (s : Fin 64) :
    (StableHlo.after hostOps1 A (Proc.devRef .tc main_v0_0) : S4096x64.Idx → EReal) (ix2 r s)
      = f (ix2 0 ⟨r.val * 64 + s.val, by omega⟩) := by
  unfold hostOps1
  after_results
  simp only [StableHlo.TRef.toBuf, StableHlo.TRef.ofBuf, StableHlo.TRef.of]
  repeat rw [cast_eq]
  rw [h]
  clear h
  pointwise

/-- The second result is the first row of the region's second array. -/
theorem out1_apply (f : S8x4096.Idx → EReal) (h : A (Proc.devRef .tc main_call0_v49_1) = f) (r : Fin 4096) :
    (StableHlo.after hostOps1 A (Proc.devRef .tc main_v0_1) : S4096.Idx → EReal) (ix1 r) = f (ix2 0 r) := by
  unfold hostOps1
  after_results
  simp only [StableHlo.TRef.toBuf, StableHlo.TRef.ofBuf, StableHlo.TRef.of]
  repeat rw [cast_eq]
  rw [h]
  clear h
  pointwise

/-- The third result is one less the second row of the region's second array. -/
theorem out2_apply (f : S8x4096.Idx → EReal) (h : A (Proc.devRef .tc main_call0_v49_1) = f) (r : Fin 4096) :
    (StableHlo.after hostOps1 A (Proc.devRef .tc main_v0_2) : S4096.Idx → EReal) (ix1 r) = 1 - f (ix2 1 r) := by
  unfold hostOps1
  after_results
  simp only [StableHlo.TRef.toBuf, StableHlo.TRef.ofBuf, StableHlo.TRef.of]
  repeat rw [cast_eq]
  rw [h]
  clear h
  pointwise

/-- The fourth result is rows two to four of the region's second array, transposed. -/
theorem out3_apply (f : S8x4096.Idx → EReal) (h : A (Proc.devRef .tc main_call0_v49_1) = f) (r : Fin 4096) (k : Fin 3) :
    (StableHlo.after hostOps1 A (Proc.devRef .tc main_v0_3) : S4096x3.Idx → EReal) (ix2 r k)
      = f (ix2 ⟨2 + k.val, by omega⟩ r) := by
  unfold hostOps1
  after_results
  simp only [StableHlo.TRef.toBuf, StableHlo.TRef.ofBuf, StableHlo.TRef.of]
  repeat rw [cast_eq]
  rw [h]
  clear h
  pointwise

/-- The fifth result is the first column of the region's third array. -/
theorem out4_apply (f : S4096x8.Idx → EReal) (h : A (Proc.devRef .tc main_call0_v49_2) = f) (r : Fin 4096) :
    (StableHlo.after hostOps1 A (Proc.devRef .tc main_v0_4) : S4096.Idx → EReal) (ix1 r) = f (ix2 r 0) := by
  unfold hostOps1
  after_results
  simp only [StableHlo.TRef.toBuf, StableHlo.TRef.ofBuf, StableHlo.TRef.of]
  repeat rw [cast_eq]
  rw [h]
  clear h
  pointwise

/-- The sixth result is the second column of the region's third array. -/
theorem out5_apply (f : S4096x8.Idx → EReal) (h : A (Proc.devRef .tc main_call0_v49_2) = f) (r : Fin 4096) :
    (StableHlo.after hostOps1 A (Proc.devRef .tc main_v0_5) : S4096.Idx → EReal) (ix1 r) = f (ix2 r 1) := by
  unfold hostOps1
  after_results
  simp only [StableHlo.TRef.toBuf, StableHlo.TRef.ofBuf, StableHlo.TRef.of]
  repeat rw [cast_eq]
  rw [h]
  clear h
  pointwise

end

/-! ## What it makes of the region's -/

variable (m : (ℓ : Loc nD τ sig) → Buf (Elt Ideal) ℓ) (c : Dev nD)

/-- Every buffer when the region has ended. -/
def ended : Valuation τ sig (Elt Ideal) :=
  Pipeline.withArrays (cfgs 0).spec c (V0 m c) fun w => (dats m 0 c).arrAt w (cfgs 0).N

/-- Different windows have different arrays. -/
theorem arr_inj : Function.Injective (Pipeline.arrRef (cfgs 0).spec) := by decide

/-- After the region the first array holds the probabilities. -/
theorem ended9 (hS : (scene m c).Finite) : ended m c (Proc.devRef .tc main_call0_v49_0) = probs (scene m c) :=
  (Pipeline.withArrays_arr (cfgs 0).spec arr_inj c _ _ 9).trans (final9 m c hS)

/-- After the region the second array holds the sums over rays. -/
theorem ended10 (hS : (scene m c).Finite) : ended m c (Proc.devRef .tc main_call0_v49_1) = sums (scene m c) :=
  (Pipeline.withArrays_arr (cfgs 0).spec arr_inj c _ _ 10).trans (final10 m c hS)

/-- After the region the third array holds the largest and smallest depths. -/
theorem ended11 : ended m c (Proc.devRef .tc main_call0_v49_2) = ends (scene m c) :=
  (Pipeline.withArrays_arr (cfgs 0).spec arr_inj c _ _ 11).trans (final11 m c)

/-- What a result holds at the end of the kernel. -/
abbrev res (b : Ref sig .tc) := Pipeline.afterTail₀ cfgs (dats m) 0 (V0 m) [hostOps1] c b

/-- The first result: the probability that a ray ends at a sample. -/
theorem res0_apply (hS : (scene m c).Finite) (r : Fin 4096) (s : Fin 64) :
    (res m c main_v0_0 : S4096x64.Idx → EReal) (ix2 r s) = Render.prob (scene m c) r s := by
  refine (out0_apply (ended m c) _ (ended9 m c hS) r s).trans ?_
  have hr : (⟨(r.val * 64 + s.val) / 64, by omega⟩ : Fin 4096) = r := Fin.ext (by show (r.val * 64 + s.val) / 64 = r.val; omega)
  have hs : (⟨(r.val * 64 + s.val) % 64, by omega⟩ : Fin 64) = s := Fin.ext (by show (r.val * 64 + s.val) % 64 = s.val; omega)
  show Render.prob (scene m c) ⟨(r.val * 64 + s.val) / 64, _⟩ ⟨(r.val * 64 + s.val) % 64, _⟩ = _
  rw [hr, hs]

/-- The second result: a ray's expected depth. -/
theorem res1_apply (hS : (scene m c).Finite) (r : Fin 4096) :
    (res m c main_v0_1 : S4096.Idx → EReal) (ix1 r) = Render.meanDepth (scene m c) r :=
  (out1_apply (ended m c) _ (ended10 m c hS) r).trans (if_pos (show (0 : Fin 8).val = 0 from rfl))

/-- The third result: the probability that a ray leaves the scene. -/
theorem res2_apply (hS : (scene m c).Finite) (r : Fin 4096) :
    (res m c main_v0_2 : S4096.Idx → EReal) (ix1 r) = 1 - Render.total (scene m c) r :=
  (out2_apply (ended m c) _ (ended10 m c hS) r).trans (congrArg (fun y : EReal => 1 - y)
    ((if_neg (show ¬ (1 : Fin 8).val = 0 by decide)).trans (if_pos (show (1 : Fin 8).val = 1 from rfl))))

/-- The fourth result: a ray's colour. -/
theorem res3_apply (hS : (scene m c).Finite) (r : Fin 4096) (k : Fin 3) :
    (res m c main_v0_3 : S4096x3.Idx → EReal) (ix2 r k) = Render.color (scene m c) r k := by
  refine (out3_apply (ended m c) _ (ended10 m c hS) r k).trans ((if_neg ?_).trans ((if_neg ?_).trans ((dif_pos ?_).trans ?_)))
  · show ¬ 2 + k.val = 0
    omega
  · show ¬ 2 + k.val = 1
    omega
  · show 2 + k.val < 5
    omega
  · exact congrArg (Render.color (scene m c) r) (Fin.ext (by show 2 + k.val - 2 = k.val; omega))

/-- The fifth result: a ray's largest depth. -/
theorem res4_apply (r : Fin 4096) : (res m c main_v0_4 : S4096.Idx → EReal) (ix1 r) = Render.far (scene m c) r :=
  (out4_apply (ended m c) _ (ended11 m c) r).trans (if_pos (show (0 : Fin 8).val = 0 from rfl))

/-- The sixth result: a ray's smallest depth. -/
theorem res5_apply (r : Fin 4096) : (res m c main_v0_5 : S4096.Idx → EReal) (ix1 r) = Render.near (scene m c) r :=
  (out5_apply (ended m c) _ (ended11 m c) r).trans
    ((if_neg (show ¬ (1 : Fin 8).val = 0 by decide)).trans (if_pos (show (1 : Fin 8).val = 1 from rfl)))

end Cert.KernelIdeal.Hand
-- ==== Proof.Pre.lean ====
/-
  WHAT THE PRECONDITION SAYS. The arrays the network's energies are made of hold real numbers, no sample is masked, and the
  two biases are zero.
-/
module

public import Idealize.ShloMosaic.Lib.ReduceAll
public import Idealize.ShloMosaic.Lib.Pointwise
public import proofs.«01_k».proof.Pre_unbiased_unmasked_finite
public import proofs.«01_k».proof.Proof.Model

@[expose] public section

set_option maxRecDepth 16384

noncomputable section

namespace Cert.Pre_unbiased_unmasked_finite

open Idealize.ShloMosaic Facts

/-- The bits of infinity are the largest extended real. -/
theorem inf_eq_top : Ideal.ofBits .f32 0x7F800000#32 = ⊤ := by simp [Ideal.ofBits, Ideal.ieee]

/-- A value whose magnitude is below infinity is real. -/
theorem real_of_lt {s : Shape} (x : FVec Ideal s .f32) (h : S_.BroadcastsInDim s (![] : Fin 0 → Fin s.rank)) (i : s.Idx)
    (e : cmpf .olt (Host.absf x) (broadcastInDim s ![] h (constant S_ .f32 0x7F800000#32)) i = 1#1) :
    Render.IsReal (x i : EReal) := by
  change Ideal.cmp .olt (max (x i : EReal) (-(x i : EReal))) (Ideal.ofBits .f32 0x7F800000#32) = 1#1 at e
  rw [inf_eq_top] at e
  have hlt : max (x i : EReal) (-(x i : EReal)) < ⊤ := by
    by_contra hn
    simp [Ideal.cmp, hn] at e
  rw [max_lt_iff] at hlt
  refine Render.isReal_of_abs_lt_top hlt.1.ne fun hb => ?_
  rw [hb] at hlt
  exact absurd hlt.2 (by simp)

/-- A value that compares equal to zero is zero. -/
theorem zero_of_eq {s : Shape} (x : FVec Ideal s .f32) (h : S_.BroadcastsInDim s (![] : Fin 0 → Fin s.rank)) (i : s.Idx)
    (e : cmpf .oeq x (broadcastInDim s ![] h (constant S_ .f32 0x00000000#32)) i = 1#1) : (x i : EReal) = 0 := by
  change Ideal.cmp .oeq (x i : EReal) (Ideal.ofBits .f32 0x00000000#32) = 1#1 at e
  rw [Ideal.ofBits_zero_f32] at e
  by_contra hn
  simp [Ideal.cmp, hn] at e

/-- A word that compares different from minus one is not minus one. -/
theorem ne_of_ne {s : Shape} (x : IVec s 32) (h : S_.BroadcastsInDim s (![] : Fin 0 → Fin s.rank)) (i : s.Idx)
    (e : cmpi .ne x (broadcastInDim s ![] h (constantI S_ 32 4294967295#32)) i = 1#1) : x i ≠ 4294967295#32 := by
  intro hx
  change IntOp.cmpi .ne (x i) 4294967295#32 = 1#1 at e
  rw [hx] at e
  exact absurd e (by decide)

instance : Subsingleton S_.Idx := ⟨fun _ _ => funext fun a => a.elim0⟩

/-- The one index of a scalar. -/
def point : S_.Idx := fun a => a.elim0

variable [Facts]

/-- A conjunction that is true has both parts true. -/
theorem andi_split {x y : IVec S_ 1} (e : andi x y point = 1#1) : x point = 1#1 ∧ y point = 1#1 := IntOp.andi_eq_one.1 e

variable (x0 x1 : FVec Ideal S4096x3 .f32) (x2 : FVec Ideal S4096x64 .f32) (x3 : IVec S4096x64 32) (x4 : FVec Ideal S4096x64 .f32)
  (x5 : FVec Ideal S6x256 .f32) (x6 : FVec Ideal S256 .f32) (x7 : FVec Ideal S256x256 .f32) (x8 : FVec Ideal S256 .f32)
  (x9 : FVec Ideal S256x1 .f32) (x10 : FVec Ideal S256x3 .f32)

/-- The precondition read back: finite scene, no masked sample, no bias. -/
theorem fn_holds (e : fn (F := Ideal) x0 x1 x2 x3 x4 x5 x6 x7 x8 x9 x10 = fun _ => 1#1) :
    (Render.sceneOf x0 x1 x2 x4 x5 x7 x9 x10).Finite ∧ (∀ r s, x3 (ix2 r s) ≠ 4294967295#32)
      ∧ (∀ n, (x6 (ix1 n) : EReal) = 0) ∧ ∀ n, (x8 (ix1 n) : EReal) = 0 := by
  replace e := congrFun e point
  dsimp only [fn, fn_part1, fn_part2] at e
  obtain ⟨e, e8⟩ := andi_split e
  obtain ⟨e, e6⟩ := andi_split e
  obtain ⟨e, e3⟩ := andi_split e
  obtain ⟨e, e9⟩ := andi_split e
  obtain ⟨e, e7⟩ := andi_split e
  obtain ⟨e, e5⟩ := andi_split e
  obtain ⟨e, e4⟩ := andi_split e
  obtain ⟨e, e2⟩ := andi_split e
  obtain ⟨e0, e1⟩ := andi_split e
  exact ⟨{ start := fun r j => real_of_lt x0 _ _ (Host.reduce_andi_all _ _ _ _ _ e0 (ix2 r j))
           dir := fun r j => real_of_lt x1 _ _ (Host.reduce_andi_all _ _ _ _ _ e1 (ix2 r j))
           depth := fun r s => real_of_lt x2 _ _ (Host.reduce_andi_all _ _ _ _ _ e2 (ix2 r s))
           dists := fun r s => real_of_lt x4 _ _ (Host.reduce_andi_all _ _ _ _ _ e4 (ix2 r s))
           W1 := fun k n => real_of_lt x5 _ _ (Host.reduce_andi_all _ _ _ _ _ e5 (ix2 k n))
           W2 := fun k n => real_of_lt x7 _ _ (Host.reduce_andi_all _ _ _ _ _ e7 (ix2 k n))
           Ws := fun k => real_of_lt x9 _ _ (Host.reduce_andi_all _ _ _ _ _ e9 (ix2 k 0)) },
    fun r s => ne_of_ne x3 _ _ (Host.reduce_andi_all _ _ _ _ _ e3 (ix2 r s)),
    fun n => zero_of_eq x6 _ _ (Host.reduce_andi_all _ _ _ _ _ e6 (ix1 n)),
    fun n => zero_of_eq x8 _ _ (Host.reduce_andi_all _ _ _ _ _ e8 (ix1 n))⟩

end Cert.Pre_unbiased_unmasked_finite
-- ==== Proof.RefRead.lean ====
/-
  THE REFERENCE AT AN INDEX. Each stage of the reference program, read at an index, is the plain function of `Model.lean`
  of the same name, when both biases are zero and every sample belongs to a voxel.
-/
module

public import Idealize.ShloMosaic.Lib.Claim
public import Idealize.ShloMosaic.Lib.Pointwise
public import Idealize.ShloMosaic.Lib.Routing.Ops
public import proofs.«01_k».proof.Proof.Model
public import proofs.«01_k».proof.Proof.Gen.ReferenceIdeal.Read

@[expose] public section

set_option maxRecDepth 16384

noncomputable section

namespace Cert.ReferenceIdeal.Hand

open Idealize.ShloMosaic Idealize.ShloMosaic.TcCoe Cert.ReferenceIdeal Cert.ReferenceIdeal.Gen Cert.ReferenceIdeal.Read

/-- Adding the members of a list one by one adds their sum. -/
theorem foldl_add_list {ι : Type} (f : ι → EReal) : ∀ (l : List ι) (a : EReal), l.foldl (fun r n => r + f n) a = a + (l.map f).sum
  | [], a => by simp
  | n :: l, a => by rw [List.foldl_cons, foldl_add_list f l, List.map_cons, List.sum_cons, add_assoc]

/-- A window of 64 that ends at a sample, over an axis padded with 63 zeros in front, sums the samples up to that one. -/
theorem window_apply (x : S4096x64.Idx → EReal) (init : S_.Idx → EReal) (hinit : init ix0 = 0)
    (r : Fin 4096) (s : Fin 64) :
    Host.reduceWindowAdd (F := Ideal) (φ := .f32) ![1, 64] ![1, 1] ![0, 63] ![0, 0] x init reduceWindows_S4096x64_S4096x64_w1s1p0_0_w64s1p63_0 h_S_ (ix2 r s)
      = ∑ w : Fin 64, if h : 63 ≤ s.val + w.val then x (ix2 r ⟨s.val + w.val - 63, by omega⟩) else 0 := by
  have hv : init (Shape.Idx.first h_S_) = 0 := (congrArg init (funext fun a => a.elim0)).trans hinit
  show Host.reduceWindow (· + ·) ![1, 64] ![1, 1] ![0, 63] ![0, 0] x (fun _ => init (Shape.Idx.first h_S_))
    reduceWindows_S4096x64_S4096x64_w1s1p0_0_w64s1p63_0 h_S_ (ix2 r s) = _
  unfold Host.reduceWindow
  refine (foldl_add_list _ _ _).trans ?_
  rw [hv, zero_add, ← Fin.sum_univ_def]
  refine Fintype.sum_equiv (finCongr (Routing.numel2 64)) _ _ fun n => ?_
  have hw0 : ((Routing.shape2 1 64).rowMajor.symm n 0).val = 0 := by rw [Routing.symm2]; rfl
  have hw1 : ((Routing.shape2 1 64).rowMajor.symm n 1).val = n.val := by rw [Routing.symm2]; rfl
  have hn : n.val < 64 := (n.cast (Routing.numel2 64)).isLt
  split
  · next hin =>
    have h1 := hin 1
    change 63 ≤ s.val * 1 + ((Routing.shape2 1 64).rowMajor.symm n 1).val ∧ _ at h1
    rw [hw1, Nat.mul_one] at h1
    rw [dif_pos (by exact h1.1)]
    refine congrArg x (funext fun a => Fin.ext ?_)
    match a with
    | ⟨0, _⟩ =>
      show r.val * 1 + ((Routing.shape2 1 64).rowMajor.symm n 0).val - 0 = r.val
      rw [hw0]
      omega
    | ⟨1, _⟩ =>
      show s.val * 1 + ((Routing.shape2 1 64).rowMajor.symm n 1).val - 63 = s.val + n.val - 63
      rw [hw1, Nat.mul_one]
  · next hin =>
    rw [dif_neg fun hle => hin fun a => by
      have hle' : 63 ≤ s.val + n.val := hle
      match a with
      | ⟨0, _⟩ =>
        show 0 ≤ r.val * 1 + ((Routing.shape2 1 64).rowMajor.symm n 0).val
          ∧ r.val * 1 + ((Routing.shape2 1 64).rowMajor.symm n 0).val - 0 < 4096
        rw [hw0]
        omega
      | ⟨1, _⟩ =>
        show 63 ≤ s.val * 1 + ((Routing.shape2 1 64).rowMajor.symm n 1).val
          ∧ s.val * 1 + ((Routing.shape2 1 64).rowMajor.symm n 1).val - 63 < 64
        rw [hw1]
        omega]

/-- The sum over the window, where the array holds a zero and then the values one sample later. -/
theorem window_shift (s : Fin 64) (x e : Fin 64 → EReal) (h0 : ∀ h, x ⟨0, h⟩ = 0) (hx : ∀ j h h', x ⟨j + 1, h⟩ = e ⟨j, h'⟩) :
    (∑ w : Fin 64, if h : 63 ≤ s.val + w.val then x ⟨s.val + w.val - 63, by omega⟩ else 0)
      = ∑ j : Fin 64, if j.val < s.val then e j else 0 := by
  have h1 : ∀ w : Fin 64, (if h : 63 ≤ s.val + w.val then x ⟨s.val + w.val - 63, by omega⟩ else 0)
      = if 64 ≤ s.val + w.val then e ⟨s.val + w.val - 64, by omega⟩ else 0 := by
    intro w
    by_cases h64 : 64 ≤ s.val + w.val
    · rw [if_pos h64, dif_pos (by omega), ← hx _ (by omega)]
      exact congrArg x (Fin.ext (by show _ = _ + 1; dsimp only; omega))
    · rw [if_neg h64]
      split
      · refine Eq.trans (congrArg x (Fin.ext ?_)) (h0 (by omega))
        dsimp only
        omega
      · rfl
  rw [Finset.sum_congr rfl fun w _ => h1 w, ← Finset.sum_filter, ← Finset.sum_filter]
  refine Finset.sum_bij' (fun w _ => ⟨s.val + w.val - 64, by omega⟩)
    (fun j hj => ⟨j.val + 64 - s.val, by have := (Finset.mem_filter.1 hj).2; omega⟩) ?_ ?_ ?_ ?_ ?_
  · intro w hw
    have := (Finset.mem_filter.1 hw).2
    exact Finset.mem_filter.2 ⟨Finset.mem_univ _, by dsimp only; omega⟩
  · intro j hj
    have := (Finset.mem_filter.1 hj).2
    exact Finset.mem_filter.2 ⟨Finset.mem_univ _, by dsimp only; omega⟩
  · intro w hw
    have := (Finset.mem_filter.1 hw).2
    exact Fin.ext (by dsimp only; omega)
  · intro j hj
    have := (Finset.mem_filter.1 hj).2
    exact Fin.ext (by dsimp only; omega)
  · intro w hw
    rfl

variable (x0 x1 : S4096x3.Idx → EReal) (x2 : S4096x64.Idx → EReal) (x3 : S4096x64.Idx → BitVec 32) (x4 : S4096x64.Idx → EReal)
  (x5 : S6x256.Idx → EReal) (x6 : S256.Idx → EReal) (x7 : S256x256.Idx → EReal) (x8 : S256.Idx → EReal)
  (x9 : S256x1.Idx → EReal) (x10 : S256x3.Idx → EReal)

/-- The reference's network inputs, by ray and sample. -/
theorem feat_apply (r : Fin 4096) (s : Fin 64) (k : Fin 6) :
    val_main_v12 (F := Ideal) x0 x1 x2 (ix3 r s k) = Render.feat (Render.sceneOf x0 x1 x2 x4 x5 x7 x9 x10) r s k := by
  unfold Render.feat
  pointwise [val_main_v12, val_main_v11, val_main_v10, val_main_v9, val_main_v8, val_main_v7, val_main_v6, val_main_v5, val_main_v4, val_main_v3, val_main_v2]
  rfl

/-- The reference's network inputs, by flat sample. -/
theorem feat_flat (p : Fin 262144) (k : Fin 6) :
    val_main_v13 (F := Ideal) x0 x1 x2 (ix2 p k) = Render.feat (Render.sceneOf x0 x1 x2 x4 x5 x7 x9 x10) ⟨p.val / 64, by omega⟩ ⟨p.val % 64, by omega⟩ k := by
  rw [← feat_apply x0 x1 x2 x4 x5 x7 x9 x10]
  unfold val_main_v13
  generalize val_main_v12 (F := Ideal) x0 x1 x2 = y
  pointwise

/-- The first bias, broadcast, is zero. -/
theorem bias1_apply (p : Fin 262144) (n : Fin 256) : val_main_v16 (F := Ideal) x6 (ix2 p n) = x6 (ix1 n) := by
  pointwise [val_main_v16, val_main_v15]

/-- The second bias, broadcast, is zero. -/
theorem bias2_apply (p : Fin 262144) (n : Fin 256) : val_main_v21 (F := Ideal) x8 (ix2 p n) = x8 (ix1 n) := by
  pointwise [val_main_v21, val_main_v20]

variable (h6 : ∀ n, x6 (ix1 n) = 0) (h8 : ∀ n, x8 (ix1 n) = 0)

include h6 in
/-- The reference's first layer. -/
theorem hid1_apply (p : Fin 262144) (n : Fin 256) :
    val_main_v18 (F := Ideal) x0 x1 x2 x5 x6 (ix2 p n) = Render.hid1 (Render.sceneOf x0 x1 x2 x4 x5 x7 x9 x10) ⟨p.val / 64, by omega⟩ ⟨p.val % 64, by omega⟩ n := by
  have e : val_main_v18 (F := Ideal) x0 x1 x2 x5 x6 (ix2 p n)
      = max ((∑ k : Fin 6, val_main_v13 (F := Ideal) x0 x1 x2 (ix2 p k) * x5 (ix2 k n)) + val_main_v16 (F := Ideal) x6 (ix2 p n)) 0 := by
    unfold val_main_v18 val_main_v17 val_main_v14
    generalize val_main_v13 (F := Ideal) x0 x1 x2 = y
    generalize val_main_v16 (F := Ideal) x6 = z
    pointwise [val_main_call0_v0, val_main_call0_cst]
  rw [e, bias1_apply, h6, add_zero]
  simp only [feat_flat x0 x1 x2 x4 x5 x7 x9 x10]
  rfl

include h6 h8 in
/-- The reference's second layer. -/
theorem hid2_apply (p : Fin 262144) (n : Fin 256) :
    val_main_v23 (F := Ideal) x0 x1 x2 x5 x6 x7 x8 (ix2 p n)
      = Render.hid2 (Render.sceneOf x0 x1 x2 x4 x5 x7 x9 x10) ⟨p.val / 64, by omega⟩ ⟨p.val % 64, by omega⟩ n := by
  have e : val_main_v23 (F := Ideal) x0 x1 x2 x5 x6 x7 x8 (ix2 p n)
      = max ((∑ k : Fin 256, val_main_v18 (F := Ideal) x0 x1 x2 x5 x6 (ix2 p k) * x7 (ix2 k n)) + val_main_v21 (F := Ideal) x8 (ix2 p n)) 0 := by
    unfold val_main_v23 val_main_v22 val_main_v19
    generalize val_main_v18 (F := Ideal) x0 x1 x2 x5 x6 = y
    generalize val_main_v21 (F := Ideal) x8 = z
    pointwise [val_main_call1_v0, val_main_call1_cst]
  rw [e, bias2_apply, h8, add_zero]
  simp only [hid1_apply x0 x1 x2 x4 x5 x6 x7 x9 x10 h6]
  rfl

/-- The flat position of a ray's sample. -/
def pos (r : Fin 4096) (s : Fin 64) : Fin 262144 := ⟨r.val * 64 + s.val, by omega⟩

/-- The ray of a flat sample. -/
theorem pos_div (r : Fin 4096) (s : Fin 64) (h : (pos r s).val / 64 < 4096) : (⟨(pos r s).val / 64, h⟩ : Fin 4096) = r :=
  Fin.ext (by show (r.val * 64 + s.val) / 64 = r.val; omega)

/-- A flat sample's place on its ray. -/
theorem pos_mod (r : Fin 4096) (s : Fin 64) (h : (pos r s).val % 64 < 64) : (⟨(pos r s).val % 64, h⟩ : Fin 64) = s :=
  Fin.ext (by show (r.val * 64 + s.val) % 64 = s.val; omega)

include h6 h8 in
/-- The reference's densities. -/
theorem sigma_apply (r : Fin 4096) (s : Fin 64) :
    val_main_v25 (F := Ideal) x0 x1 x2 x5 x6 x7 x8 x9 (ix2 r s) = Render.sigma (Render.sceneOf x0 x1 x2 x4 x5 x7 x9 x10) r s := by
  have e : val_main_v25 (F := Ideal) x0 x1 x2 x5 x6 x7 x8 x9 (ix2 r s)
      = ∑ k : Fin 256, val_main_v23 (F := Ideal) x0 x1 x2 x5 x6 x7 x8 (ix2 (pos r s) k) * x9 (ix2 k 0) := by
    unfold val_main_v25 val_main_v24 pos
    generalize val_main_v23 (F := Ideal) x0 x1 x2 x5 x6 x7 x8 = y
    pointwise
  rw [e]
  simp only [hid2_apply x0 x1 x2 x4 x5 x6 x7 x8 x9 x10 h6 h8, pos_div, pos_mod]
  rfl

include h6 h8 in
/-- The reference's textures. -/
theorem tex_apply (r : Fin 4096) (s : Fin 64) (c : Fin 3) :
    val_main_v33 (F := Ideal) x0 x1 x2 x5 x6 x7 x8 x10 (ix3 r s c) = Render.tex (Render.sceneOf x0 x1 x2 x4 x5 x7 x9 x10) r s c := by
  have e : val_main_v33 (F := Ideal) x0 x1 x2 x5 x6 x7 x8 x10 (ix3 r s c)
      = Ideal.logistic (∑ k : Fin 256, val_main_v23 (F := Ideal) x0 x1 x2 x5 x6 x7 x8 (ix2 (pos r s) k) * x10 (ix2 k c)) := by
    unfold val_main_v33 val_main_v32 val_main_v30 val_main_v28 val_main_v27 val_main_v26 pos
    generalize val_main_v23 (F := Ideal) x0 x1 x2 x5 x6 x7 x8 = y
    unfold Ideal.logistic
    pointwise [val_main_v31, val_main_cst_0, val_main_v29, val_main_cst]
  rw [e]
  simp only [hid2_apply x0 x1 x2 x4 x5 x6 x7 x8 x9 x10 h6 h8, pos_div, pos_mod]
  rfl

variable (h3 : ∀ r s, x3 (ix2 r s) ≠ 4294967295#32)

include h3 in
/-- No sample is masked off. -/
theorem mask_apply (r : Fin 4096) (s : Fin 64) : val_main_v1 (F := Ideal) x3 (ix2 r s) = 1#1 := by
  have e : val_main_v1 (F := Ideal) x3 (ix2 r s) = IntOp.cmpi .ne (x3 (ix2 r s)) 4294967295#32 := by
    pointwise [val_main_v1, val_main_v0, val_main_c]
  rw [e]
  have hb : (x3 (ix2 r s) != 4294967295#32) = true := bne_iff_ne.2 (h3 r s)
  show BitVec.ofBool (x3 (ix2 r s) != 4294967295#32) = 1#1
  rw [hb]
  rfl

include h6 h8 h3 in
/-- The reference's free energies: no sample is masked. -/
theorem energy_apply (r : Fin 4096) (s : Fin 64) :
    val_main_v38 (F := Ideal) x0 x1 x2 x3 x4 x5 x6 x7 x8 x9 (ix2 r s) = Render.energy (Render.sceneOf x0 x1 x2 x4 x5 x7 x9 x10) r s := by
  have e : val_main_v38 (F := Ideal) x0 x1 x2 x3 x4 x5 x6 x7 x8 x9 (ix2 r s)
      = Scalar.select (val_main_v1 (F := Ideal) x3 (ix2 r s))
          (max (val_main_v25 (F := Ideal) x0 x1 x2 x5 x6 x7 x8 x9 (ix2 r s)) 0 * x4 (ix2 r s) * Ideal.ofBits .f32 0x40E00000#32)
          (val_main_call3_v1 (F := Ideal) (ix2 r s)) := by
    unfold val_main_v38 val_main_v37 val_main_v35 val_main_v34
    generalize val_main_v25 (F := Ideal) x0 x1 x2 x5 x6 x7 x8 x9 = y
    generalize val_main_v1 (F := Ideal) x3 = z
    generalize val_main_call3_v1 (F := Ideal) = u
    pointwise [val_main_call2_v0, val_main_call2_cst, val_main_v36, val_main_cst_1]
  rw [e, mask_apply x3 h3, sigma_apply x0 x1 x2 x4 x5 x6 x7 x8 x9 x10 h6 h8]
  rfl

include h6 h8 h3 in
/-- The reference's running sum is the energy in front of the sample. -/
theorem before_apply (r : Fin 4096) (s : Fin 64) :
    val_main_v48 (F := Ideal) x0 x1 x2 x3 x4 x5 x6 x7 x8 x9 (ix2 r s) = Render.before (Render.sceneOf x0 x1 x2 x4 x5 x7 x9 x10) r s := by
  unfold val_main_v48
  rw [window_apply _ _ (by pointwise [val_main_call5_call0_v0, val_main_call5_call0_cst])]
  refine window_shift s (fun j => val_main_v43 (F := Ideal) x0 x1 x2 x3 x4 x5 x6 x7 x8 x9 (ix2 r j)) (Render.energy (Render.sceneOf x0 x1 x2 x4 x5 x7 x9 x10) r) (fun h => ?_) (fun j h h' => ?_)
  · unfold val_main_v43 val_main_v42
    generalize val_main_v38 (F := Ideal) x0 x1 x2 x3 x4 x5 x6 x7 x8 x9 = y
    pointwise [val_main_v41, val_main_cst_4]
  · rw [← energy_apply x0 x1 x2 x3 x4 x5 x6 x7 x8 x9 x10 h6 h8 h3]
    unfold val_main_v43 val_main_v42
    generalize val_main_v38 (F := Ideal) x0 x1 x2 x3 x4 x5 x6 x7 x8 x9 = y
    pointwise [val_main_v41, val_main_cst_4]
    exact dif_neg (by omega)

include h6 h8 h3 in
/-- The reference's probabilities. -/
theorem prob_apply (r : Fin 4096) (s : Fin 64) :
    val_main_v51 (F := Ideal) x0 x1 x2 x3 x4 x5 x6 x7 x8 x9 (ix2 r s) = Render.prob (Render.sceneOf x0 x1 x2 x4 x5 x7 x9 x10) r s := by
  unfold Render.prob
  rw [← energy_apply x0 x1 x2 x3 x4 x5 x6 x7 x8 x9 x10 h6 h8 h3, ← before_apply x0 x1 x2 x3 x4 x5 x6 x7 x8 x9 x10 h6 h8 h3]
  unfold val_main_v51 val_main_v50 val_main_v49 val_main_v47 val_main_v45 val_main_v44
  generalize val_main_v38 (F := Ideal) x0 x1 x2 x3 x4 x5 x6 x7 x8 x9 = y
  generalize val_main_v48 (F := Ideal) x0 x1 x2 x3 x4 x5 x6 x7 x8 x9 = z
  pointwise [val_main_v46, val_main_cst_5]

include h6 h8 h3 in
/-- The first result but one: the expected depths. -/
theorem meanDepth_apply (r : Fin 4096) :
    val_main_v53 (F := Ideal) x0 x1 x2 x3 x4 x5 x6 x7 x8 x9 (ix1 r) = Render.meanDepth (Render.sceneOf x0 x1 x2 x4 x5 x7 x9 x10) r := by
  unfold Render.meanDepth
  simp only [← prob_apply x0 x1 x2 x3 x4 x5 x6 x7 x8 x9 x10 h6 h8 h3]
  unfold val_main_v53 val_main_v52
  generalize val_main_v51 (F := Ideal) x0 x1 x2 x3 x4 x5 x6 x7 x8 x9 = y
  pointwise [val_main_cst_6]
  rfl

include h6 h8 h3 in
/-- The reference's probability of leaving the scene. -/
theorem missed_apply (r : Fin 4096) :
    val_main_v56 (F := Ideal) x0 x1 x2 x3 x4 x5 x6 x7 x8 x9 (ix1 r) = 1 - Render.total (Render.sceneOf x0 x1 x2 x4 x5 x7 x9 x10) r := by
  unfold Render.total
  simp only [← prob_apply x0 x1 x2 x3 x4 x5 x6 x7 x8 x9 x10 h6 h8 h3]
  unfold val_main_v56 val_main_v54
  generalize val_main_v51 (F := Ideal) x0 x1 x2 x3 x4 x5 x6 x7 x8 x9 = y
  pointwise [val_main_v55, val_main_cst_7, val_main_cst_8]

include h6 h8 h3 in
/-- The reference's colours. -/
theorem color_apply (r : Fin 4096) (c : Fin 3) :
    val_main_v60 (F := Ideal) x0 x1 x2 x3 x4 x5 x6 x7 x8 x9 x10 (ix2 r c) = Render.color (Render.sceneOf x0 x1 x2 x4 x5 x7 x9 x10) r c := by
  have e : val_main_v60 (F := Ideal) x0 x1 x2 x3 x4 x5 x6 x7 x8 x9 x10 (ix2 r c)
      = ∑ s : Fin 64, (Scalar.select (val_main_v1 (F := Ideal) x3 (ix2 r s))
          (val_main_v33 (F := Ideal) x0 x1 x2 x5 x6 x7 x8 x10 (ix3 r s c)) (val_main_call4_v2 (F := Ideal) (ix3 r s c)) : EReal)
          * val_main_v51 (F := Ideal) x0 x1 x2 x3 x4 x5 x6 x7 x8 x9 (ix2 r s) := by
    unfold val_main_v60 val_main_v59 val_main_v58 val_main_v57 val_main_v40 val_main_call4_v1 val_main_v39
    generalize val_main_v51 (F := Ideal) x0 x1 x2 x3 x4 x5 x6 x7 x8 x9 = y
    generalize val_main_v1 (F := Ideal) x3 = z
    generalize val_main_v33 (F := Ideal) x0 x1 x2 x5 x6 x7 x8 x10 = u
    generalize val_main_call4_v2 (F := Ideal) = w
    pointwise [val_main_cst_9]
  rw [e]
  simp only [mask_apply x3 h3, tex_apply x0 x1 x2 x4 x5 x6 x7 x8 x9 x10 h6 h8, prob_apply x0 x1 x2 x3 x4 x5 x6 x7 x8 x9 x10 h6 h8 h3]
  rfl

include h3 in
/-- The reference's largest depths. -/
theorem far_apply (r : Fin 4096) :
    val_main_v62 (F := Ideal) x2 x3 (ix1 r) = Render.far (Render.sceneOf x0 x1 x2 x4 x5 x7 x9 x10) r := by
  have e : val_main_v61 (F := Ideal) x2 x3 = x2 := by
    funext i
    obtain ⟨r, s, rfl⟩ : ∃ r s, i = ix2 r s := ⟨i 0, i 1, by pointwise⟩
    show Scalar.select (val_main_v1 (F := Ideal) x3 (ix2 r s)) (x2 (ix2 r s)) _ = _
    rw [mask_apply x3 h3]
    rfl
  unfold val_main_v62
  rw [e]
  unfold Render.far
  pointwise [val_main_cst_11]
  rfl

/-- The reference's smallest depths. -/
theorem near_apply (r : Fin 4096) :
    val_main_v63 (F := Ideal) x2 (ix1 r) = Render.near (Render.sceneOf x0 x1 x2 x4 x5 x7 x9 x10) r := by
  unfold val_main_v63
  unfold Render.near
  pointwise [val_main_cst_12]
  rfl

end Cert.ReferenceIdeal.Hand

end
-- ==== Proof.Meet.lean ====
/-
  THE TWO PROGRAMS' RESULTS ARE THE SAME ARRAYS. Index by index both are the plain functions of `Model.lean` of the one scene
  that the argument arrays hold.
-/
module

public import proofs.«01_k».proof.Defs
public import proofs.«01_k».proof.Proof.Tail
public import proofs.«01_k».proof.Proof.Pre
public import proofs.«01_k».proof.Proof.RefRead
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_unbiased_unmasked_finite

@[expose] public section

set_option maxRecDepth 16384

noncomputable section

namespace Cert.Meet

open Idealize.ShloMosaic Idealize.ShloMosaic.TcCoe Cert.ReferenceIdeal.Read Cert.ReferenceIdeal.Hand

/-- A coordinate at every index of a one-axis shape. -/
theorem exists_ix1 {a : Nat} (y : (⟨1, ![a]⟩ : Shape).Idx) : ∃ p : Fin a, y = ix1 p := ⟨y 0, by pointwise⟩

/-! ## The kernel's results are the reference's terms -/

section

open Cert.KernelIdeal Cert.KernelIdeal.Gen Cert.KernelIdeal.Hand

variable (m : (ℓ : Loc nD τ sig) → Buf (Elt Ideal) ℓ) (c : Dev nD)

/-- A device's argument, by its buffer. -/
abbrev arg (b : Ref sig .tc) := m ((c.tc : Thread nD τ).loc b)

/-- What the precondition says of a device's arguments. -/
structure Good : Prop where
  finite : (scene m c).Finite
  unmasked : ∀ r s, (arg m c main_arg3 : Cert.ReferenceIdeal.S4096x64.Idx → BitVec 32) (ix2 r s) ≠ 4294967295#32
  bias1 : ∀ n, @Eq EReal ((arg m c main_arg6 : Cert.ReferenceIdeal.S256.Idx → EReal) (ix1 n)) 0
  bias2 : ∀ n, @Eq EReal ((arg m c main_arg8 : Cert.ReferenceIdeal.S256.Idx → EReal) (ix1 n)) 0

variable {m c} (H : Good m c)
include H

/-- The probabilities. -/
theorem probs_meet : (res m c main_v0_0 : S4096x64.Idx → EReal)
    = val_main_v51 (F := Ideal) (arg m c main_arg0) (arg m c main_arg1) (arg m c main_arg2) (arg m c main_arg3) (arg m c main_arg4)
        (arg m c main_arg5) (arg m c main_arg6) (arg m c main_arg7) (arg m c main_arg8) (arg m c main_arg9) := by
  funext i
  obtain ⟨r, s, rfl⟩ := exists_ix2 i
  exact (res0_apply m c H.finite r s).trans
    (prob_apply _ _ _ _ _ _ _ _ _ _ (arg m c main_arg10) H.bias1 H.bias2 H.unmasked r s).symm

/-- The expected depths. -/
theorem depths_meet : (res m c main_v0_1 : S4096.Idx → EReal)
    = val_main_v53 (F := Ideal) (arg m c main_arg0) (arg m c main_arg1) (arg m c main_arg2) (arg m c main_arg3) (arg m c main_arg4)
        (arg m c main_arg5) (arg m c main_arg6) (arg m c main_arg7) (arg m c main_arg8) (arg m c main_arg9) := by
  funext i
  obtain ⟨r, rfl⟩ := exists_ix1 i
  exact (res1_apply m c H.finite r).trans
    (meanDepth_apply _ _ _ _ _ _ _ _ _ _ (arg m c main_arg10) H.bias1 H.bias2 H.unmasked r).symm

/-- The probabilities of leaving the scene. -/
theorem missed_meet : (res m c main_v0_2 : S4096.Idx → EReal)
    = val_main_v56 (F := Ideal) (arg m c main_arg0) (arg m c main_arg1) (arg m c main_arg2) (arg m c main_arg3) (arg m c main_arg4)
        (arg m c main_arg5) (arg m c main_arg6) (arg m c main_arg7) (arg m c main_arg8) (arg m c main_arg9) := by
  funext i
  obtain ⟨r, rfl⟩ := exists_ix1 i
  exact (res2_apply m c H.finite r).trans
    (missed_apply _ _ _ _ _ _ _ _ _ _ (arg m c main_arg10) H.bias1 H.bias2 H.unmasked r).symm

/-- The colours. -/
theorem colors_meet : (res m c main_v0_3 : S4096x3.Idx → EReal)
    = val_main_v60 (F := Ideal) (arg m c main_arg0) (arg m c main_arg1) (arg m c main_arg2) (arg m c main_arg3) (arg m c main_arg4)
        (arg m c main_arg5) (arg m c main_arg6) (arg m c main_arg7) (arg m c main_arg8) (arg m c main_arg9) (arg m c main_arg10) := by
  funext i
  obtain ⟨r, k, rfl⟩ := exists_ix2 i
  exact (res3_apply m c H.finite r k).trans
    (color_apply _ _ _ _ _ _ _ _ _ _ _ H.bias1 H.bias2 H.unmasked r k).symm

/-- The largest depths. -/
theorem far_meet : (res m c main_v0_4 : S4096.Idx → EReal)
    = val_main_v62 (F := Ideal) (arg m c main_arg2) (arg m c main_arg3) := by
  funext i
  obtain ⟨r, rfl⟩ := exists_ix1 i
  exact (res4_apply m c r).trans
    (far_apply (arg m c main_arg0) (arg m c main_arg1) (arg m c main_arg2) (arg m c main_arg3) (arg m c main_arg4)
        (arg m c main_arg5) (arg m c main_arg7) (arg m c main_arg9) (arg m c main_arg10) H.unmasked r).symm

omit H in
/-- The smallest depths. -/
theorem near_meet : (res m c main_v0_5 : S4096.Idx → EReal) = val_main_v63 (F := Ideal) (arg m c main_arg2) := by
  funext i
  obtain ⟨r, rfl⟩ := exists_ix1 i
  exact (res5_apply m c r).trans
    (near_apply (arg m c main_arg0) (arg m c main_arg1) (arg m c main_arg2) (arg m c main_arg4)
        (arg m c main_arg5) (arg m c main_arg7) (arg m c main_arg9) (arg m c main_arg10) r).symm

end

/-! ## The reference's results, of arguments given by their contents -/

section

open Cert.ReferenceIdeal Cert.ReferenceIdeal.Gen

variable (m' : (ℓ : Loc nD τ sig) → Buf (Elt Ideal) ℓ) (c : Dev nD)
  {x0 : (⟨S4096x3, .f32⟩ : BufTy).Contents (Elt Ideal)}
  {x1 : (⟨S4096x3, .f32⟩ : BufTy).Contents (Elt Ideal)}
  {x2 : (⟨S4096x64, .f32⟩ : BufTy).Contents (Elt Ideal)}
  {x3 : (⟨S4096x64, .i32⟩ : BufTy).Contents (Elt Ideal)}
  {x4 : (⟨S4096x64, .f32⟩ : BufTy).Contents (Elt Ideal)}
  {x5 : (⟨S6x256, .f32⟩ : BufTy).Contents (Elt Ideal)}
  {x6 : (⟨S256, .f32⟩ : BufTy).Contents (Elt Ideal)}
  {x7 : (⟨S256x256, .f32⟩ : BufTy).Contents (Elt Ideal)}
  {x8 : (⟨S256, .f32⟩ : BufTy).Contents (Elt Ideal)}
  {x9 : (⟨S256x1, .f32⟩ : BufTy).Contents (Elt Ideal)}
  {x10 : (⟨S256x3, .f32⟩ : BufTy).Contents (Elt Ideal)}

/-- The reference's probabilities, of arguments given by their contents. -/
theorem ref51 (a0 : m' ((c.tc : Thread nD τ).loc main_arg0) = x0)
    (a1 : m' ((c.tc : Thread nD τ).loc main_arg1) = x1)
    (a2 : m' ((c.tc : Thread nD τ).loc main_arg2) = x2)
    (a3 : m' ((c.tc : Thread nD τ).loc main_arg3) = x3)
    (a4 : m' ((c.tc : Thread nD τ).loc main_arg4) = x4)
    (a5 : m' ((c.tc : Thread nD τ).loc main_arg5) = x5)
    (a6 : m' ((c.tc : Thread nD τ).loc main_arg6) = x6)
    (a7 : m' ((c.tc : Thread nD τ).loc main_arg7) = x7)
    (a8 : m' ((c.tc : Thread nD τ).loc main_arg8) = x8)
    (a9 : m' ((c.tc : Thread nD τ).loc main_arg9) = x9) :
    Cert.ReferenceIdeal.Value.res_main_v51 m' c = val_main_v51 (F := Ideal) x0 x1 x2 x3 x4 x5 x6 x7 x8 x9 := by
  subst a0 a1 a2 a3 a4 a5 a6 a7 a8 a9
  exact val_main_v51_eq m' c

/-- The reference's expected depths, of arguments given by their contents. -/
theorem ref53 (a0 : m' ((c.tc : Thread nD τ).loc main_arg0) = x0)
    (a1 : m' ((c.tc : Thread nD τ).loc main_arg1) = x1)
    (a2 : m' ((c.tc : Thread nD τ).loc main_arg2) = x2)
    (a3 : m' ((c.tc : Thread nD τ).loc main_arg3) = x3)
    (a4 : m' ((c.tc : Thread nD τ).loc main_arg4) = x4)
    (a5 : m' ((c.tc : Thread nD τ).loc main_arg5) = x5)
    (a6 : m' ((c.tc : Thread nD τ).loc main_arg6) = x6)
    (a7 : m' ((c.tc : Thread nD τ).loc main_arg7) = x7)
    (a8 : m' ((c.tc : Thread nD τ).loc main_arg8) = x8)
    (a9 : m' ((c.tc : Thread nD τ).loc main_arg9) = x9) :
    Cert.ReferenceIdeal.Value.res_main_v53 m' c = val_main_v53 (F := Ideal) x0 x1 x2 x3 x4 x5 x6 x7 x8 x9 := by
  subst a0 a1 a2 a3 a4 a5 a6 a7 a8 a9
  exact val_main_v53_eq m' c

/-- The reference's probabilities of leaving the scene, of arguments given by their contents. -/
theorem ref56 (a0 : m' ((c.tc : Thread nD τ).loc main_arg0) = x0)
    (a1 : m' ((c.tc : Thread nD τ).loc main_arg1) = x1)
    (a2 : m' ((c.tc : Thread nD τ).loc main_arg2) = x2)
    (a3 : m' ((c.tc : Thread nD τ).loc main_arg3) = x3)
    (a4 : m' ((c.tc : Thread nD τ).loc main_arg4) = x4)
    (a5 : m' ((c.tc : Thread nD τ).loc main_arg5) = x5)
    (a6 : m' ((c.tc : Thread nD τ).loc main_arg6) = x6)
    (a7 : m' ((c.tc : Thread nD τ).loc main_arg7) = x7)
    (a8 : m' ((c.tc : Thread nD τ).loc main_arg8) = x8)
    (a9 : m' ((c.tc : Thread nD τ).loc main_arg9) = x9) :
    Cert.ReferenceIdeal.Value.res_main_v56 m' c = val_main_v56 (F := Ideal) x0 x1 x2 x3 x4 x5 x6 x7 x8 x9 := by
  subst a0 a1 a2 a3 a4 a5 a6 a7 a8 a9
  exact val_main_v56_eq m' c

/-- The reference's colours, of arguments given by their contents. -/
theorem ref60 (a0 : m' ((c.tc : Thread nD τ).loc main_arg0) = x0)
    (a1 : m' ((c.tc : Thread nD τ).loc main_arg1) = x1)
    (a2 : m' ((c.tc : Thread nD τ).loc main_arg2) = x2)
    (a3 : m' ((c.tc : Thread nD τ).loc main_arg3) = x3)
    (a4 : m' ((c.tc : Thread nD τ).loc main_arg4) = x4)
    (a5 : m' ((c.tc : Thread nD τ).loc main_arg5) = x5)
    (a6 : m' ((c.tc : Thread nD τ).loc main_arg6) = x6)
    (a7 : m' ((c.tc : Thread nD τ).loc main_arg7) = x7)
    (a8 : m' ((c.tc : Thread nD τ).loc main_arg8) = x8)
    (a9 : m' ((c.tc : Thread nD τ).loc main_arg9) = x9)
    (a10 : m' ((c.tc : Thread nD τ).loc main_arg10) = x10) :
    Cert.ReferenceIdeal.Value.res_main_v60 m' c = val_main_v60 (F := Ideal) x0 x1 x2 x3 x4 x5 x6 x7 x8 x9 x10 := by
  subst a0 a1 a2 a3 a4 a5 a6 a7 a8 a9 a10
  exact val_main_v60_eq m' c

end

/-! ## The runs -/

section

open Cert.KernelIdeal Cert.KernelIdeal.Gen Cert.KernelIdeal.Hand

/-- The kernel ends with its results in the six result buffers. -/
theorem kernel_run (m : (ℓ : Loc nD τ sig) → Buf (Elt Ideal) ℓ) (ρ : Dev nD → PrngReg) :
    θ_run defs (onTc (τ := τ) (main (F := Ideal))) (s₀ m ρ) (fun r => ∀ c : Dev nD,
      r.2.mem ((c.tc : Thread nD τ).loc main_v0_0) = res m c main_v0_0
      ∧ r.2.mem ((c.tc : Thread nD τ).loc main_v0_1) = res m c main_v0_1
      ∧ r.2.mem ((c.tc : Thread nD τ).loc main_v0_2) = res m c main_v0_2
      ∧ r.2.mem ((c.tc : Thread nD τ).loc main_v0_3) = res m c main_v0_3
      ∧ r.2.mem ((c.tc : Thread nD τ).loc main_v0_4) = res m c main_v0_4
      ∧ r.2.mem ((c.tc : Thread nD τ).loc main_v0_5) = res m c main_v0_5) :=
  (θ_run defs _ _).mono (fun _ h c =>
    ⟨(h c).2 main_v0_0 (Pipeline.mem_restRefs_of main_v0_0 (by decide) (by decide)),
      (h c).2 main_v0_1 (Pipeline.mem_restRefs_of main_v0_1 (by decide) (by decide)),
      (h c).2 main_v0_2 (Pipeline.mem_restRefs_of main_v0_2 (by decide) (by decide)),
      (h c).2 main_v0_3 (Pipeline.mem_restRefs_of main_v0_3 (by decide) (by decide)),
      (h c).2 main_v0_4 (Pipeline.mem_restRefs_of main_v0_4 (by decide) (by decide)),
      (h c).2 main_v0_5 (Pipeline.mem_restRefs_of main_v0_5 (by decide) (by decide))⟩) (run_main m ρ)

/-- The precondition gives what the results need. -/
theorem good_of_pre (m : (ℓ : Loc nD τ sig) → Buf (Elt Ideal) ℓ)
    (hpre : Cert.Pre_KernelIdeal_unbiased_unmasked_finite (hPre_unbiased_unmasked_finite := Cert.Pre_unbiased_unmasked_finite.Gen.facts) m)
    (c : Dev nD) : Good m c := by
  have h := @Cert.Pre_unbiased_unmasked_finite.fn_holds Cert.Pre_unbiased_unmasked_finite.Gen.facts _ _ _ _ _ _ _ _ _ _ _ (hpre c)
  exact ⟨h.1, h.2.1, h.2.2.1, h.2.2.2⟩

end

/-- From memories with the same arguments, within the precondition, the kernel and the reference end with the same results. -/
theorem algebraic : Cert.algebraic_KernelIdeal_ReferenceIdeal_pre_unbiased_unmasked_finite
    (hKernelIdeal := Cert.KernelIdeal.Gen.facts) (hReferenceIdeal := Cert.ReferenceIdeal.Gen.facts)
    (hPre_unbiased_unmasked_finite := Cert.Pre_unbiased_unmasked_finite.Gen.facts) := by
  intro m g m' g' hpre hagree
  refine ⟨fun c => Cert.KernelIdeal.Hand.res m c Cert.KernelIdeal.main_v0_0, fun c => Cert.KernelIdeal.Hand.res m c Cert.KernelIdeal.main_v0_1,
    fun c => Cert.KernelIdeal.Hand.res m c Cert.KernelIdeal.main_v0_2, fun c => Cert.KernelIdeal.Hand.res m c Cert.KernelIdeal.main_v0_3,
    fun c => Cert.KernelIdeal.Hand.res m c Cert.KernelIdeal.main_v0_4, fun c => Cert.KernelIdeal.Hand.res m c Cert.KernelIdeal.main_v0_5, ?_, ?_⟩
  · exact (θ_run _ _ _).mono (fun r h c => ⟨(h.1 c).1, (h.1 c).2.1, (h.1 c).2.2.1, (h.1 c).2.2.2.1, (h.1 c).2.2.2.2.1, (h.1 c).2.2.2.2.2, h.2 c⟩)
      (θ_run_and (kernel_run m g) (Cert.KernelIdeal.Gen.unchanged m g))
  · refine (θ_run _ _ _).mono (fun r h c => ?_) (Cert.ReferenceIdeal.Value.run m' g')
    obtain ⟨a0, a1, a2, a3, a4, a5, a6, a7, a8, a9, a10⟩ := hagree c
    have H := good_of_pre m hpre c
    obtain ⟨h0, h1, h2, h3, h4, h5, h⟩ := h c
    refine ⟨h0.trans ?_, h1.trans ?_, h2.trans ?_, h3.trans ?_, h4.trans ?_, h5.trans ?_, h⟩
    · exact (ref51 m' c a0 a1 a2 a3 a4 a5 a6 a7 a8 a9).trans (probs_meet H).symm
    · exact (ref53 m' c a0 a1 a2 a3 a4 a5 a6 a7 a8 a9).trans (depths_meet H).symm
    · exact (ref56 m' c a0 a1 a2 a3 a4 a5 a6 a7 a8 a9).trans (missed_meet H).symm
    · exact (ref60 m' c a0 a1 a2 a3 a4 a5 a6 a7 a8 a9 a10).trans (colors_meet H).symm
    · rw [a2, a3]
      exact (far_meet H).symm
    · rw [a2]
      exact near_meet.symm

end Cert.Meet
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_unbiased_unmasked_finite
public import proofs.«01_k».proof.Proof.Meet
public import Idealize.ShloMosaic.Adequacy
public import Idealize.ShloMosaic.Init

@[expose] public section

noncomputable section

namespace Cert.Proof

open Idealize.ShloMosaic Idealize.SL.Sem Cert.Kernel

/-- The reference's frame: it runs to the end, leaves its arguments as they are, and, having no semaphores, leaves every
    counter at zero. -/
theorem reference_frame : Cert.quiescent_ReferenceIdeal (hReferenceIdeal := Cert.ReferenceIdeal.Gen.facts) := by
  intro m ρ _
  exact (θ_run _ _ _).mono (fun r h => ⟨fun c => (h c).2.2.2.2.2.2, sem_eq_zero_of_no_sems (by decide) r.2⟩)
    (Cert.ReferenceIdeal.Value.run m ρ)

/-- The parts of the certificate, in order: the frames, each also within the precondition; the kernel's idealization; and the
    kernel's results, which are the reference's. -/
theorem claim : Cert.Claim := ⟨Cert.Kernel.Gen.facts, Cert.KernelIdeal.Gen.facts, Cert.ReferenceIdeal.Gen.facts,
  Cert.Pre_unbiased_unmasked_finite.Gen.facts,
  fun m ρ _ => Cert.Kernel.Gen.frame m ρ, fun m ρ _ => Cert.KernelIdeal.Gen.frame m ρ, fun m ρ _ => Cert.KernelIdeal.Gen.frame m ρ,
  reference_frame, fun m ρ _ => reference_frame m ρ trivial, trivial, Cert.Meet.algebraic⟩

end Cert.Proof

end
